-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log_beta1" .f32 0xBDD7C741#32 ((Real.log (9 / 10) : ℝ) : EReal)
  ∧ IdealRules.named_const.Statement Cert.KernelIdeal.κ "log_beta2" .f32 0xBA832338#32 ((Real.log (999 / 1000) : ℝ) : EReal)
  ∧ IdealRules.named_const.Statement Cert.KernelIdeal.κ "eps" .f32 0x322BCC77#32 ((1 / 100000000 : ℝ) : EReal)
  ∧ IdealRules.named_const.Statement Cert.KernelIdeal.κ "beta1" .f32 0x3F666666#32 ((9 / 10 : ℝ) : EReal)
  ∧ IdealRules.named_const.Statement Cert.KernelIdeal.κ "beta1c" .f32 0x3DCCCCCD#32 ((1 / 10 : ℝ) : EReal)
  ∧ IdealRules.named_const.Statement Cert.KernelIdeal.κ "beta2c" .f32 0x3A83126F#32 ((1 / 1000 : ℝ) : EReal)
  ∧ IdealRules.named_const.Statement Cert.KernelIdeal.κ "lr_wd" .f32 0x3727C5AC#32 ((1 / 100000 : ℝ) : EReal)
  ∧ IdealRules.named_const.Statement Cert.KernelIdeal.κ "inv_qmax" .f32 0x3C010204#32 ((1 / 127 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S22528x8192 : Shape := ⟨2, ![22528, 8192]⟩
abbrev S22528x64 : Shape := ⟨2, ![22528, 64]⟩
abbrev S_ : Shape := ⟨0, ![]⟩
abbrev S22528x64x128 : Shape := ⟨3, ![22528, 64, 128]⟩
abbrev S22528x64x1 : Shape := ⟨3, ![22528, 64, 1]⟩

class Facts : Prop where
  bitsLt_bf16_f32 : FTy.bits .bf16 < FTy.bits .f32
  shapeCasts_S22528x8192_S22528x64x128 : S22528x8192.ShapeCasts S22528x64x128
  natLt_8_32 : 8 < 32
  bcast_S22528x64_S22528x64x1_0_1 : S22528x64.BroadcastsInDim S22528x64x1 (![0, 1] : Fin 2 → Fin S22528x64x1.rank)
  bcast_S22528x64x1_S22528x64x128_0_1_2 : S22528x64x1.BroadcastsInDim S22528x64x128 (![0, 1, 2] : Fin 3 → Fin S22528x64x128.rank)
  bcast_S_S22528x64x128 : S_.BroadcastsInDim S22528x64x128 (![] : Fin 0 → Fin S22528x64x128.rank)
  bcast_S_S22528x8192 : S_.BroadcastsInDim S22528x8192 (![] : Fin 0 → Fin S22528x8192.rank)

variable [Facts]

def fn_part1 {F : FTy → Type} [FloatOps F] (main_arg6 : IVec S_ 32) (main_v14 : FVec F S22528x64x128 .f32) (main_v17 : IVec S22528x8192 1) (main_v19 : IVec S22528x64x128 1) : IVec S22528x8192 1 × IVec S22528x64x128 1 × IVec S_ 1 :=
  let main_cst_3 : FVec F S_ .f32 := constant S_ .f32 0x02081CEA#32
  let main_v20 : FVec F S22528x64x128 .f32 := broadcastInDim S22528x64x128 ![] bcast_S_S22528x64x128 main_cst_3
  let main_v21 : IVec S22528x64x128 1 := cmpf .oge main_v14 main_v20
  let main_cst_4 : FVec F S_ .f32 := constant S_ .f32 0x7F800000#32
  let main_v22 : FVec F S22528x64x128 .f32 := broadcastInDim S22528x64x128 ![] bcast_S_S22528x64x128 main_cst_4
  let main_v23 : IVec S22528x64x128 1 := cmpf .olt main_v14 main_v22
  let main_v24 : IVec S22528x64x128 1 := andi main_v21 main_v23
  let main_v25 : IVec S22528x64x128 1 := ori main_v19 main_v24
  let main_c : IVec S_ 32 := constantI S_ 32 1#32
  let main_v26 : IVec S_ 1 := cmpi .sge main_arg6 main_c
  (main_v17, main_v25, main_v26)

def fn {F : FTy → Type} [FloatOps F] (main_arg0 : FVec F S22528x8192 .f32) (main_arg1 : FVec F S22528x8192 .bf16) (main_arg2 : IVec S22528x8192 8) (main_arg3 : FVec F S22528x64 .f32) (main_arg4 : IVec S22528x8192 8) (main_arg5 : FVec F S22528x64 .f32) (main_arg6 : IVec S_ 32) : IVec S22528x8192 1 × IVec S22528x64x128 1 × IVec S_ 1 :=
  let main_v0 : FVec F S22528x8192 .f32 := (extf .f32 · bitsLt_bf16_f32) main_arg1
  let main_v1 : FVec F S22528x64x128 .f32 := shapeCast S22528x64x128 main_v0 shapeCasts_S22528x8192_S22528x64x128
  let main_v2 : IVec S22528x8192 32 := (extsi 32 · natLt_8_32) main_arg4
  let main_v3 : FVec F S22528x8192 .f32 := sitofp .f32 main_v2
  let main_v4 : FVec F S22528x64x128 .f32 := shapeCast S22528x64x128 main_v3 shapeCasts_S22528x8192_S22528x64x128
  let main_v5 : FVec F S22528x64x1 .f32 := broadcastInDim S22528x64x1 ![0, 1] bcast_S22528x64_S22528x64x1_0_1 main_arg5
  let main_v6 : FVec F S22528x64x128 .f32 := broadcastInDim S22528x64x128 ![0, 1, 2] bcast_S22528x64x1_S22528x64x128_0_1_2 main_v5
  let main_v7 : FVec F S22528x64x128 .f32 := mulf main_v4 main_v6
  let main_v8 : FVec F S22528x64x128 .f32 := mulf main_v7 main_v7
  let main_cst : FVec F S_ .f32 := constant S_ .f32 0x3F7FBE77#32
  let main_v9 : FVec F S22528x64x128 .f32 := broadcastInDim S22528x64x128 ![] bcast_S_S22528x64x128 main_cst
  let main_v10 : FVec F S22528x64x128 .f32 := mulf main_v9 main_v8
  let main_v11 : FVec F S22528x64x128 .f32 := mulf main_v1 main_v1
  let main_cst_0 : FVec F S_ .f32 := constant S_ .f32 0x447A0000#32
  let main_v12 : FVec F S22528x64x128 .f32 := broadcastInDim S22528x64x128 ![] bcast_S_S22528x64x128 main_cst_0
  let main_v13 : FVec F S22528x64x128 .f32 := Host.divf main_v11 main_v12
  let main_v14 : FVec F S22528x64x128 .f32 := addf main_v10 main_v13
  let main_v15 : FVec F S22528x8192 .f32 := Host.absf main_arg0
  let main_cst_1 : FVec F S_ .f32 := constant S_ .f32 0x7F800000#32
  let main_v16 : FVec F S22528x8192 .f32 := broadcastInDim S22528x8192 ![] bcast_S_S22528x8192 main_cst_1
  let main_v17 : IVec S22528x8192 1 := cmpf .olt main_v15 main_v16
  let main_cst_2 : FVec F S_ .f32 := constant S_ .f32 0x00000000#32
  let main_v18 : FVec F S22528x64x128 .f32 := broadcastInDim S22528x64x128 ![] bcast_S_S22528x64x128 main_cst_2
  let main_v19 : IVec S22528x64x128 1 := cmpf .oeq main_v14 main_v18
  fn_part1 (F := F) main_arg6 main_v14 main_v17 main_v19
-- ==== Kernel.lean ====
abbrev S22528x8192 : Shape := ⟨2, ![22528, 8192]⟩
abbrev S22528x64 : Shape := ⟨2, ![22528, 64]⟩
abbrev S_ : Shape := ⟨0, ![]⟩
abbrev S1 : Shape := ⟨1, ![1]⟩
abbrev S64x8192 : Shape := ⟨2, ![64, 8192]⟩
abbrev S64x64 : Shape := ⟨2, ![64, 64]⟩
abbrev S8x128 : Shape := ⟨2, ![8, 128]⟩
abbrev S32x128 : Shape := ⟨2, ![32, 128]⟩
abbrev S32x1 : Shape := ⟨2, ![32, 1]⟩
abbrev S32 : Shape := ⟨1, ![32]⟩

abbrev nBuf : Space → Nat
  | .hbm => 12
  | .vmem => 22
  | .smem => 1
  | _ => 0

abbrev bufTy : (tb : Table) → Fin (tcTables nBuf tb) → BufTy
  | .hbm, ⟨0, _⟩ => ⟨S22528x8192, .f32⟩
  | .hbm, ⟨1, _⟩ => ⟨S22528x8192, .bf16⟩
  | .hbm, ⟨2, _⟩ => ⟨S22528x8192, .i8⟩
  | .hbm, ⟨3, _⟩ => ⟨S22528x64, .f32⟩
  | .hbm, ⟨4, _⟩ => ⟨S22528x8192, .i8⟩
  | .hbm, ⟨5, _⟩ => ⟨S22528x64, .f32⟩
  | .hbm, ⟨6, _⟩ => ⟨S_, .i32⟩
  | .hbm, ⟨7, _⟩ => ⟨S22528x8192, .f32⟩
  | .hbm, ⟨8, _⟩ => ⟨S22528x8192, .i8⟩
  | .hbm, ⟨9, _⟩ => ⟨S22528x64, .f32⟩
  | .hbm, ⟨10, _⟩ => ⟨S22528x8192, .i8⟩
  | .hbm, ⟨11, _⟩ => ⟨S22528x64, .f32⟩
  | .local _ .vmem, ⟨0, _⟩ => ⟨S64x8192, .f32⟩
  | .local _ .vmem, ⟨1, _⟩ => ⟨S64x8192, .f32⟩
  | .local _ .vmem, ⟨2, _⟩ => ⟨S64x8192, .bf16⟩
  | .local _ .vmem, ⟨3, _⟩ => ⟨S64x8192, .bf16⟩
  | .local _ .vmem, ⟨4, _⟩ => ⟨S64x8192, .i8⟩
  | .local _ .vmem, ⟨5, _⟩ => ⟨S64x8192, .i8⟩
  | .local _ .vmem, ⟨6, _⟩ => ⟨S64x64, .f32⟩
  | .local _ .vmem, ⟨7, _⟩ => ⟨S64x64, .f32⟩
  | .local _ .vmem, ⟨8, _⟩ => ⟨S64x8192, .i8⟩
  | .local _ .vmem, ⟨9, _⟩ => ⟨S64x8192, .i8⟩
  | .local _ .vmem, ⟨10, _⟩ => ⟨S64x64, .f32⟩
  | .local _ .vmem, ⟨11, _⟩ => ⟨S64x64, .f32⟩
  | .local _ .vmem, ⟨12, _⟩ => ⟨S64x8192, .f32⟩
  | .local _ .vmem, ⟨13, _⟩ => ⟨S64x8192, .f32⟩
  | .local _ .vmem, ⟨14, _⟩ => ⟨S64x8192, .i8⟩
  | .local _ .vmem, ⟨15, _⟩ => ⟨S64x8192, .i8⟩
  | .local _ .vmem, ⟨16, _⟩ => ⟨S64x64, .f32⟩
  | .local _ .vmem, ⟨17, _⟩ => ⟨S64x64, .f32⟩
  | .local _ .vmem, ⟨18, _⟩ => ⟨S64x8192, .i8⟩
  | .local _ .vmem, ⟨19, _⟩ => ⟨S64x8192, .i8⟩
  | .local _ .vmem, ⟨20, _⟩ => ⟨S64x64, .f32⟩
  | .local _ .vmem, ⟨21, _⟩ => ⟨S64x64, .f32⟩
  | .local _ .smem, ⟨0, _⟩ => ⟨S1, .i32⟩
  | _, _ => ⟨S22528x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![352], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c2_i32 : BitVec 32 := 2#32
  let v21 : BitVec 32 := Scalar.addi c0_i32 c2_i32
  let c1_i32 : BitVec 32 := 1#32
  ⟨c0_i32, v21, c1_i32⟩
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v23 : Index := Scalar.indexCast v22
  let c0_6 : Index := 0#32
  ![v23.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v29 : Index := Scalar.indexCast v22
  let c0_8 : Index := 0#32
  ![v29.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v111 : Index := Scalar.indexCast v22
  let c128 : Index := 128#32
  ![v111.toNat, 128]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v117 : Index := Scalar.indexCast v22
  let c1 : Index := 1#32
  ![v117.toNat, 1]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v199 : Index := Scalar.indexCast v22
  let c256 : Index := 256#32
  ![v199.toNat, 256]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v205 : Index := Scalar.indexCast v22
  let c2 : Index := 2#32
  ![v205.toNat, 2]
def k0_off7 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v287 : Index := Scalar.indexCast v22
  let c384 : Index := 384#32
  ![v287.toNat, 384]
def k0_off8 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v293 : Index := Scalar.indexCast v22
  let c3 : Index := 3#32
  ![v293.toNat, 3]
def k0_off9 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v375 : Index := Scalar.indexCast v22
  let c512 : Index := 512#32
  ![v375.toNat, 512]
def k0_off10 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v381 : Index := Scalar.indexCast v22
  let c4 : Index := 4#32
  ![v381.toNat, 4]
def k0_off11 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v463 : Index := Scalar.indexCast v22
  let c640 : Index := 640#32
  ![v463.toNat, 640]
def k0_off12 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v469 : Index := Scalar.indexCast v22
  let c5 : Index := 5#32
  ![v469.toNat, 5]
def k0_off13 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v551 : Index := Scalar.indexCast v22
  let c768 : Index := 768#32
  ![v551.toNat, 768]
def k0_off14 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v557 : Index := Scalar.indexCast v22
  let c6 : Index := 6#32
  ![v557.toNat, 6]
def k0_off15 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v639 : Index := Scalar.indexCast v22
  let c896 : Index := 896#32
  ![v639.toNat, 896]
def k0_off16 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v645 : Index := Scalar.indexCast v22
  let c7 : Index := 7#32
  ![v645.toNat, 7]
def k0_off17 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v727 : Index := Scalar.indexCast v22
  let c1024 : Index := 1024#32
  ![v727.toNat, 1024]
def k0_off18 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v733 : Index := Scalar.indexCast v22
  let c8 : Index := 8#32
  ![v733.toNat, 8]
def k0_off19 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v815 : Index := Scalar.indexCast v22
  let c1152 : Index := 1152#32
  ![v815.toNat, 1152]
def k0_off20 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v821 : Index := Scalar.indexCast v22
  let c9 : Index := 9#32
  ![v821.toNat, 9]
def k0_off21 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v903 : Index := Scalar.indexCast v22
  let c1280 : Index := 1280#32
  ![v903.toNat, 1280]
def k0_off22 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v909 : Index := Scalar.indexCast v22
  let c10 : Index := 10#32
  ![v909.toNat, 10]
def k0_off23 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v991 : Index := Scalar.indexCast v22
  let c1408 : Index := 1408#32
  ![v991.toNat, 1408]
def k0_off24 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v997 : Index := Scalar.indexCast v22
  let c11 : Index := 11#32
  ![v997.toNat, 11]
def k0_off25 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1079 : Index := Scalar.indexCast v22
  let c1536 : Index := 1536#32
  ![v1079.toNat, 1536]
def k0_off26 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1085 : Index := Scalar.indexCast v22
  let c12 : Index := 12#32
  ![v1085.toNat, 12]
def k0_off27 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1167 : Index := Scalar.indexCast v22
  let c1664 : Index := 1664#32
  ![v1167.toNat, 1664]
def k0_off28 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1173 : Index := Scalar.indexCast v22
  let c13 : Index := 13#32
  ![v1173.toNat, 13]
def k0_off29 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1255 : Index := Scalar.indexCast v22
  let c1792 : Index := 1792#32
  ![v1255.toNat, 1792]
def k0_off30 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1261 : Index := Scalar.indexCast v22
  let c14 : Index := 14#32
  ![v1261.toNat, 14]
def k0_off31 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1343 : Index := Scalar.indexCast v22
  let c1920 : Index := 1920#32
  ![v1343.toNat, 1920]
def k0_off32 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1349 : Index := Scalar.indexCast v22
  let c15 : Index := 15#32
  ![v1349.toNat, 15]
def k0_off33 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1431 : Index := Scalar.indexCast v22
  let c2048 : Index := 2048#32
  ![v1431.toNat, 2048]
def k0_off34 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1437 : Index := Scalar.indexCast v22
  let c16 : Index := 16#32
  ![v1437.toNat, 16]
def k0_off35 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1519 : Index := Scalar.indexCast v22
  let c2176 : Index := 2176#32
  ![v1519.toNat, 2176]
def k0_off36 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1525 : Index := Scalar.indexCast v22
  let c17 : Index := 17#32
  ![v1525.toNat, 17]
def k0_off37 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1607 : Index := Scalar.indexCast v22
  let c2304 : Index := 2304#32
  ![v1607.toNat, 2304]
def k0_off38 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1613 : Index := Scalar.indexCast v22
  let c18 : Index := 18#32
  ![v1613.toNat, 18]
def k0_off39 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1695 : Index := Scalar.indexCast v22
  let c2432 : Index := 2432#32
  ![v1695.toNat, 2432]
def k0_off40 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1701 : Index := Scalar.indexCast v22
  let c19 : Index := 19#32
  ![v1701.toNat, 19]
def k0_off41 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1783 : Index := Scalar.indexCast v22
  let c2560 : Index := 2560#32
  ![v1783.toNat, 2560]
def k0_off42 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1789 : Index := Scalar.indexCast v22
  let c20 : Index := 20#32
  ![v1789.toNat, 20]
def k0_off43 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1871 : Index := Scalar.indexCast v22
  let c2688 : Index := 2688#32
  ![v1871.toNat, 2688]
def k0_off44 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1877 : Index := Scalar.indexCast v22
  let c21 : Index := 21#32
  ![v1877.toNat, 21]
def k0_off45 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1959 : Index := Scalar.indexCast v22
  let c2816 : Index := 2816#32
  ![v1959.toNat, 2816]
def k0_off46 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v1965 : Index := Scalar.indexCast v22
  let c22 : Index := 22#32
  ![v1965.toNat, 22]
def k0_off47 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2047 : Index := Scalar.indexCast v22
  let c2944 : Index := 2944#32
  ![v2047.toNat, 2944]
def k0_off48 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2053 : Index := Scalar.indexCast v22
  let c23 : Index := 23#32
  ![v2053.toNat, 23]
def k0_off49 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2135 : Index := Scalar.indexCast v22
  let c3072 : Index := 3072#32
  ![v2135.toNat, 3072]
def k0_off50 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2141 : Index := Scalar.indexCast v22
  let c24 : Index := 24#32
  ![v2141.toNat, 24]
def k0_off51 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2223 : Index := Scalar.indexCast v22
  let c3200 : Index := 3200#32
  ![v2223.toNat, 3200]
def k0_off52 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2229 : Index := Scalar.indexCast v22
  let c25 : Index := 25#32
  ![v2229.toNat, 25]
def k0_off53 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2311 : Index := Scalar.indexCast v22
  let c3328 : Index := 3328#32
  ![v2311.toNat, 3328]
def k0_off54 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2317 : Index := Scalar.indexCast v22
  let c26 : Index := 26#32
  ![v2317.toNat, 26]
def k0_off55 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2399 : Index := Scalar.indexCast v22
  let c3456 : Index := 3456#32
  ![v2399.toNat, 3456]
def k0_off56 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2405 : Index := Scalar.indexCast v22
  let c27 : Index := 27#32
  ![v2405.toNat, 27]
def k0_off57 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2487 : Index := Scalar.indexCast v22
  let c3584 : Index := 3584#32
  ![v2487.toNat, 3584]
def k0_off58 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2493 : Index := Scalar.indexCast v22
  let c28 : Index := 28#32
  ![v2493.toNat, 28]
def k0_off59 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2575 : Index := Scalar.indexCast v22
  let c3712 : Index := 3712#32
  ![v2575.toNat, 3712]
def k0_off60 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2581 : Index := Scalar.indexCast v22
  let c29 : Index := 29#32
  ![v2581.toNat, 29]
def k0_off61 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2663 : Index := Scalar.indexCast v22
  let c3840 : Index := 3840#32
  ![v2663.toNat, 3840]
def k0_off62 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2669 : Index := Scalar.indexCast v22
  let c30 : Index := 30#32
  ![v2669.toNat, 30]
def k0_off63 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2751 : Index := Scalar.indexCast v22
  let c3968 : Index := 3968#32
  ![v2751.toNat, 3968]
def k0_off64 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2757 : Index := Scalar.indexCast v22
  let c31 : Index := 31#32
  ![v2757.toNat, 31]
def k0_off65 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2839 : Index := Scalar.indexCast v22
  let c4096 : Index := 4096#32
  ![v2839.toNat, 4096]
def k0_off66 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2845 : Index := Scalar.indexCast v22
  let c32 : Index := 32#32
  ![v2845.toNat, 32]
def k0_off67 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2927 : Index := Scalar.indexCast v22
  let c4224 : Index := 4224#32
  ![v2927.toNat, 4224]
def k0_off68 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v2933 : Index := Scalar.indexCast v22
  let c33 : Index := 33#32
  ![v2933.toNat, 33]
def k0_off69 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3015 : Index := Scalar.indexCast v22
  let c4352 : Index := 4352#32
  ![v3015.toNat, 4352]
def k0_off70 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3021 : Index := Scalar.indexCast v22
  let c34 : Index := 34#32
  ![v3021.toNat, 34]
def k0_off71 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3103 : Index := Scalar.indexCast v22
  let c4480 : Index := 4480#32
  ![v3103.toNat, 4480]
def k0_off72 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3109 : Index := Scalar.indexCast v22
  let c35 : Index := 35#32
  ![v3109.toNat, 35]
def k0_off73 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3191 : Index := Scalar.indexCast v22
  let c4608 : Index := 4608#32
  ![v3191.toNat, 4608]
def k0_off74 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3197 : Index := Scalar.indexCast v22
  let c36 : Index := 36#32
  ![v3197.toNat, 36]
def k0_off75 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3279 : Index := Scalar.indexCast v22
  let c4736 : Index := 4736#32
  ![v3279.toNat, 4736]
def k0_off76 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3285 : Index := Scalar.indexCast v22
  let c37 : Index := 37#32
  ![v3285.toNat, 37]
def k0_off77 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3367 : Index := Scalar.indexCast v22
  let c4864 : Index := 4864#32
  ![v3367.toNat, 4864]
def k0_off78 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3373 : Index := Scalar.indexCast v22
  let c38 : Index := 38#32
  ![v3373.toNat, 38]
def k0_off79 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3455 : Index := Scalar.indexCast v22
  let c4992 : Index := 4992#32
  ![v3455.toNat, 4992]
def k0_off80 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3461 : Index := Scalar.indexCast v22
  let c39 : Index := 39#32
  ![v3461.toNat, 39]
def k0_off81 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3543 : Index := Scalar.indexCast v22
  let c5120 : Index := 5120#32
  ![v3543.toNat, 5120]
def k0_off82 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3549 : Index := Scalar.indexCast v22
  let c40 : Index := 40#32
  ![v3549.toNat, 40]
def k0_off83 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3631 : Index := Scalar.indexCast v22
  let c5248 : Index := 5248#32
  ![v3631.toNat, 5248]
def k0_off84 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3637 : Index := Scalar.indexCast v22
  let c41 : Index := 41#32
  ![v3637.toNat, 41]
def k0_off85 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3719 : Index := Scalar.indexCast v22
  let c5376 : Index := 5376#32
  ![v3719.toNat, 5376]
def k0_off86 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3725 : Index := Scalar.indexCast v22
  let c42 : Index := 42#32
  ![v3725.toNat, 42]
def k0_off87 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3807 : Index := Scalar.indexCast v22
  let c5504 : Index := 5504#32
  ![v3807.toNat, 5504]
def k0_off88 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3813 : Index := Scalar.indexCast v22
  let c43 : Index := 43#32
  ![v3813.toNat, 43]
def k0_off89 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3895 : Index := Scalar.indexCast v22
  let c5632 : Index := 5632#32
  ![v3895.toNat, 5632]
def k0_off90 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3901 : Index := Scalar.indexCast v22
  let c44 : Index := 44#32
  ![v3901.toNat, 44]
def k0_off91 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3983 : Index := Scalar.indexCast v22
  let c5760 : Index := 5760#32
  ![v3983.toNat, 5760]
def k0_off92 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v3989 : Index := Scalar.indexCast v22
  let c45 : Index := 45#32
  ![v3989.toNat, 45]
def k0_off93 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4071 : Index := Scalar.indexCast v22
  let c5888 : Index := 5888#32
  ![v4071.toNat, 5888]
def k0_off94 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4077 : Index := Scalar.indexCast v22
  let c46 : Index := 46#32
  ![v4077.toNat, 46]
def k0_off95 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4159 : Index := Scalar.indexCast v22
  let c6016 : Index := 6016#32
  ![v4159.toNat, 6016]
def k0_off96 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4165 : Index := Scalar.indexCast v22
  let c47 : Index := 47#32
  ![v4165.toNat, 47]
def k0_off97 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4247 : Index := Scalar.indexCast v22
  let c6144 : Index := 6144#32
  ![v4247.toNat, 6144]
def k0_off98 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4253 : Index := Scalar.indexCast v22
  let c48 : Index := 48#32
  ![v4253.toNat, 48]
def k0_off99 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4335 : Index := Scalar.indexCast v22
  let c6272 : Index := 6272#32
  ![v4335.toNat, 6272]
def k0_off100 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4341 : Index := Scalar.indexCast v22
  let c49 : Index := 49#32
  ![v4341.toNat, 49]
def k0_off101 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4423 : Index := Scalar.indexCast v22
  let c6400 : Index := 6400#32
  ![v4423.toNat, 6400]
def k0_off102 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4429 : Index := Scalar.indexCast v22
  let c50 : Index := 50#32
  ![v4429.toNat, 50]
def k0_off103 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4511 : Index := Scalar.indexCast v22
  let c6528 : Index := 6528#32
  ![v4511.toNat, 6528]
def k0_off104 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4517 : Index := Scalar.indexCast v22
  let c51 : Index := 51#32
  ![v4517.toNat, 51]
def k0_off105 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4599 : Index := Scalar.indexCast v22
  let c6656 : Index := 6656#32
  ![v4599.toNat, 6656]
def k0_off106 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4605 : Index := Scalar.indexCast v22
  let c52 : Index := 52#32
  ![v4605.toNat, 52]
def k0_off107 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4687 : Index := Scalar.indexCast v22
  let c6784 : Index := 6784#32
  ![v4687.toNat, 6784]
def k0_off108 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4693 : Index := Scalar.indexCast v22
  let c53 : Index := 53#32
  ![v4693.toNat, 53]
def k0_off109 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4775 : Index := Scalar.indexCast v22
  let c6912 : Index := 6912#32
  ![v4775.toNat, 6912]
def k0_off110 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4781 : Index := Scalar.indexCast v22
  let c54 : Index := 54#32
  ![v4781.toNat, 54]
def k0_off111 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4863 : Index := Scalar.indexCast v22
  let c7040 : Index := 7040#32
  ![v4863.toNat, 7040]
def k0_off112 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4869 : Index := Scalar.indexCast v22
  let c55 : Index := 55#32
  ![v4869.toNat, 55]
def k0_off113 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4951 : Index := Scalar.indexCast v22
  let c7168 : Index := 7168#32
  ![v4951.toNat, 7168]
def k0_off114 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v4957 : Index := Scalar.indexCast v22
  let c56 : Index := 56#32
  ![v4957.toNat, 56]
def k0_off115 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5039 : Index := Scalar.indexCast v22
  let c7296 : Index := 7296#32
  ![v5039.toNat, 7296]
def k0_off116 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5045 : Index := Scalar.indexCast v22
  let c57 : Index := 57#32
  ![v5045.toNat, 57]
def k0_off117 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5127 : Index := Scalar.indexCast v22
  let c7424 : Index := 7424#32
  ![v5127.toNat, 7424]
def k0_off118 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5133 : Index := Scalar.indexCast v22
  let c58 : Index := 58#32
  ![v5133.toNat, 58]
def k0_off119 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5215 : Index := Scalar.indexCast v22
  let c7552 : Index := 7552#32
  ![v5215.toNat, 7552]
def k0_off120 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5221 : Index := Scalar.indexCast v22
  let c59 : Index := 59#32
  ![v5221.toNat, 59]
def k0_off121 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5303 : Index := Scalar.indexCast v22
  let c7680 : Index := 7680#32
  ![v5303.toNat, 7680]
def k0_off122 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5309 : Index := Scalar.indexCast v22
  let c60 : Index := 60#32
  ![v5309.toNat, 60]
def k0_off123 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5391 : Index := Scalar.indexCast v22
  let c7808 : Index := 7808#32
  ![v5391.toNat, 7808]
def k0_off124 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5397 : Index := Scalar.indexCast v22
  let c61 : Index := 61#32
  ![v5397.toNat, 61]
def k0_off125 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5479 : Index := Scalar.indexCast v22
  let c7936 : Index := 7936#32
  ![v5479.toNat, 7936]
def k0_off126 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5485 : Index := Scalar.indexCast v22
  let c62 : Index := 62#32
  ![v5485.toNat, 62]
def k0_off127 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5567 : Index := Scalar.indexCast v22
  let c8064 : Index := 8064#32
  ![v5567.toNat, 8064]
def k0_off128 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v22 : BitVec 32 := Scalar.muli arg13 c32_i32
  let v5573 : Index := Scalar.indexCast v22
  let c63 : Index := 63#32
  ![v5573.toNat, 63]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8192 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8192 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x8192 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "beta1" => some ((9 / 10 : ℝ) : EReal)
  | "beta1c" => some ((1 / 10 : ℝ) : EReal)
  | "beta2c" => some ((1 / 1000 : ℝ) : EReal)
  | "eps" => some ((1 / 100000000 : ℝ) : EReal)
  | "inv_qmax" => some ((1 / 127 : ℝ) : EReal)
  | "log_beta1" => some ((Real.log (9 / 10) : ℝ) : EReal)
  | "log_beta2" => some ((Real.log (999 / 1000) : ℝ) : EReal)
  | "lr_wd" => some ((1 / 100000 : ℝ) : EReal)
  | _ => none
-- ==== ReferenceIdeal.lean ====
abbrev S22528x8192 : Shape := ⟨2, ![22528, 8192]⟩
abbrev S22528x64 : Shape := ⟨2, ![22528, 64]⟩
abbrev S_ : Shape := ⟨0, ![]⟩
abbrev S1 : Shape := ⟨1, ![1]⟩
abbrev S22528x64x128 : Shape := ⟨3, ![22528, 64, 128]⟩
abbrev S22528x64x1 : Shape := ⟨3, ![22528, 64, 1]⟩

abbrev nBuf : Space → Nat
  | .hbm => 13
  | .vmem => 11
  | .smem => 1
  | _ => 0

abbrev bufTy : (tb : Table) → Fin (tcTables nBuf tb) → BufTy
  | .hbm, ⟨0, _⟩ => ⟨S22528x8192, .f32⟩
  | .hbm, ⟨1, _⟩ => ⟨S22528x8192, .bf16⟩
  | .hbm, ⟨2, _⟩ => ⟨S22528x8192, .i8⟩
  | .hbm, ⟨3, _⟩ => ⟨S22528x64, .f32⟩
  | .hbm, ⟨4, _⟩ => ⟨S22528x8192, .i8⟩
  | .hbm, ⟨5, _⟩ => ⟨S22528x64, .f32⟩
  | .hbm, ⟨6, _⟩ => ⟨S_, .i32⟩
  | .hbm, ⟨7, _⟩ => ⟨S1, .i32⟩
  | .hbm, ⟨8, _⟩ => ⟨S22528x8192, .f32⟩
  | .hbm, ⟨9, _⟩ => ⟨S22528x8192, .i8⟩
  | .hbm, ⟨10, _⟩ => ⟨S22528x64, .f32⟩
  | .hbm, ⟨11, _⟩ => ⟨S22528x8192, .i8⟩
  | .hbm, ⟨12, _⟩ => ⟨S22528x64, .f32⟩
  | .local _ .vmem, ⟨0, _⟩ => ⟨S22528x8192, .f32⟩
  | .local _ .vmem, ⟨1, _⟩ => ⟨S22528x8192, .bf16⟩
  | .local _ .vmem, ⟨2, _⟩ => ⟨S22528x8192, .i8⟩
  | .local _ .vmem, ⟨3, _⟩ => ⟨S22528x64, .f32⟩
  | .local _ .vmem, ⟨4, _⟩ => ⟨S22528x8192, .i8⟩
  | .local _ .vmem, ⟨5, _⟩ => ⟨S22528x64, .f32⟩
  | .local _ .vmem, ⟨6, _⟩ => ⟨S22528x8192, .f32⟩
  | .local _ .vmem, ⟨7, _⟩ => ⟨S22528x8192, .i8⟩
  | .local _ .vmem, ⟨8, _⟩ => ⟨S22528x64, .f32⟩
  | .local _ .vmem, ⟨9, _⟩ => ⟨S22528x8192, .i8⟩
  | .local _ .vmem, ⟨10, _⟩ => ⟨S22528x64, .f32⟩
  | .local _ .smem, ⟨0, _⟩ => ⟨S1, .i32⟩
  | _, _ => ⟨S22528x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "beta1" => some ((9 / 10 : ℝ) : EReal)
  | "beta1c" => some ((1 / 10 : ℝ) : EReal)
  | "beta2c" => some ((1 / 1000 : ℝ) : EReal)
  | "eps" => some ((1 / 100000000 : ℝ) : EReal)
  | "wd" => some ((268435456 / 26843546875 : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22528x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S22528x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22528x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S22528x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S22528x8192 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S22528x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S22528x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S22528x8192 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S22528x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S22528x8192 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S22528x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Frames.lean ====
/- The frame claims and the ledger of the named constants.

   The generated frames of the two kernel programs hold under a side condition on the contents of the prefetched
   table. No index map of the kernel reads the table, so the side condition is `True` and holds for every memory. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_in_range

@[expose] public section

namespace Cert.Proof

open Idealize.ShloMosaic Idealize.SL.Sem

/-- The kernel's prefetched table is admissible whatever it holds. -/
theorem kernel_ok {F : FTy → Type} [FloatOps F]
    (m : (ℓ : Loc Cert.Kernel.nD Cert.Kernel.τ Cert.Kernel.sig) → Buf (Elt F) ℓ) : Cert.Kernel.Gen.Ok m := trivial

/-- The same for the program with named constants. -/
theorem kernelIdeal_ok {F : FTy → Type} [FloatOps F] [Named F]
    (m : (ℓ : Loc Cert.KernelIdeal.nD Cert.KernelIdeal.τ Cert.KernelIdeal.sig) → Buf (Elt F) ℓ) :
    Cert.KernelIdeal.Gen.Ok m := trivial

/-- The kernel at bit patterns: it terminates and leaves its arguments unchanged. -/
theorem frame_kernel : Cert.quiescent_Kernel :=
  fun m ρ _ => Cert.Kernel.Gen.frame m ρ (kernel_ok m)

/-- The kernel with named constants, at extended reals, from every memory. -/
theorem frame_kernelIdeal : Cert.quiescent_KernelIdeal :=
  fun m ρ _ => Cert.KernelIdeal.Gen.frame m ρ (kernelIdeal_ok m)

/-- The same from the memories of the precondition. -/
theorem frame_kernelIdeal_pre : Cert.quiescent_KernelIdeal_pre_in_range :=
  fun m ρ _ => Cert.KernelIdeal.Gen.frame m ρ (kernelIdeal_ok m)

/-- The reference at extended reals, from every memory. -/
theorem frame_reference : Cert.quiescent_ReferenceIdeal :=
  fun m ρ _ => Cert.ReferenceIdeal.Gen.frame m ρ

/-- The same from the memories of the precondition. -/
theorem frame_reference_pre : Cert.quiescent_ReferenceIdeal_pre_in_range :=
  fun m ρ _ => Cert.ReferenceIdeal.Gen.frame m ρ

/-- Each named constant of the kernel has the value that the certificate's table gives it. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

end Cert.Proof
-- ==== Proof.Trip.lean ====
/- One trip of the kernel's row loop, in one formula per result.

   The kernel's block of 64 rows is worked on in two groups of 32 rows, and each group in 64 column blocks of width 128
   that the kernel writes out one after the other. This module names what one column block stores, as a function of its
   number `j`, and shows that the trip's list of stores is the list of those 64 blocks, the last one first. -/
module

public import proofs.«01_k».proof.Proof.Gen.KernelIdeal.Frame

@[expose] public section

noncomputable section

namespace Cert.KernelIdeal.Hand

open Cert.KernelIdeal Cert.KernelIdeal.Gen Idealize.ShloMosaic Idealize.ShloMosaic.TcCoe Idealize.ShloMosaic.Tactic Idealize.SL.Sem

variable {F : FTy → Type} [FloatOps F] [Named F]

/-- The first row of group `k`, as the kernel computes it. -/
def rowOff (k : Fin k0_t1_loop.trips) : Nat := (Scalar.indexCast (Scalar.muli (Scf.iv 0#32 1#32 k) 32#32)).toNat

/-- It is `32 * k`. -/
theorem rowOff_eq (k : Fin k0_t1_loop.trips) : rowOff k = 32 * k.val :=
  (by decide +kernel : ∀ k, rowOff k = 32 * k.val) k

/-- Where column block `j` of group `k` lies in the 64x8192 block, -/
def wideOff (k : Fin k0_t1_loop.trips) (j : Fin 64) : Fin 2 → Nat := ![rowOff k, 128 * j.val]

/-- and where its scales lie in the 64x64 block. -/
def thinOff (k : Fin k0_t1_loop.trips) (j : Fin 64) : Fin 2 → Nat := ![rowOff k, j.val]

theorem trips_lt (k : Fin k0_t1_loop.trips) : k.val < 2 := (by decide +kernel : ∀ k : Fin k0_t1_loop.trips, k.val < 2) k

theorem wide_inb (k : Fin k0_t1_loop.trips) (j : Fin 64) : ∀ a, wideOff k j a + S32x128.size a ≤ S64x8192.size a := by
  have hk := trips_lt k
  have hj := j.isLt
  intro a
  fin_cases a
  · show rowOff k + 32 ≤ 64
    rw [rowOff_eq]; omega
  · show 128 * j.val + 128 ≤ 8192
    omega

theorem thin_inb (k : Fin k0_t1_loop.trips) (j : Fin 64) : ∀ a, thinOff k j a + S32x1.size a ≤ S64x64.size a := by
  have hk := trips_lt k
  have hj := j.isLt
  intro a
  fin_cases a
  · show rowOff k + 32 ≤ 64
    rw [rowOff_eq]; omega
  · show j.val + 1 ≤ 64
    omega

/-- The rectangle of column block `j`, -/
abbrev wide (k : Fin k0_t1_loop.trips) (j : Fin 64) : Rect S64x8192 := Rect.unit (wideOff k j) S32x128.size (wide_inb k j)

/-- and that of its scales. -/
abbrev thin (k : Fin k0_t1_loop.trips) (j : Fin 64) : Rect S64x64 := Rect.unit (thinOff k j) S32x1.size (thin_inb k j)

variable (𝒱 : Variants) (c : Dev nD) (bd : Option 𝒱.V) (i : grid0.Coords)
  (arg1 : Memref sig .tc .smem S1 .i32) (harg1 : arg1.IsWhole)
  (arg2 : Memref sig .tc .vmem S64x8192 .f32) (harg2 : arg2.IsWhole)
  (arg3 : Memref sig .tc .vmem S64x8192 .bf16) (harg3 : arg3.IsWhole)
  (arg4 : Memref sig .tc .vmem S64x8192 .i8) (harg4 : arg4.IsWhole)
  (arg5 : Memref sig .tc .vmem S64x64 .f32) (harg5 : arg5.IsWhole)
  (arg6 : Memref sig .tc .vmem S64x8192 .i8) (harg6 : arg6.IsWhole)
  (arg7 : Memref sig .tc .vmem S64x64 .f32) (harg7 : arg7.IsWhole)
  (arg8 : Memref sig .tc .vmem S64x8192 .f32) (harg8 : arg8.IsWhole)
  (arg9 : Memref sig .tc .vmem S64x8192 .i8) (harg9 : arg9.IsWhole)
  (arg10 : Memref sig .tc .vmem S64x64 .f32) (harg10 : arg10.IsWhole)
  (arg11 : Memref sig .tc .vmem S64x8192 .i8) (harg11 : arg11.IsWhole)
  (arg12 : Memref sig .tc .vmem S64x64 .f32) (harg12 : arg12.IsWhole)
  (v0 : Elt F .i32)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (k : Fin k0_t1_loop.trips) (j : Fin 64)

/-- The new first moment of column block `j`. -/
def tileM : FVec F S32x128 .f32 :=
  k0_pay7 (View.readAt (Elt F) arg3.view (wide k j).toLoadRect X3) (View.readAt (Elt F) arg4.view (wide k j).toLoadRect X4)
    (View.readAt (Elt F) arg5.view (thin k j).toLoadRect X5)

/-- The square root of its new second moment. -/
def tileR : FVec F S32x128 .f32 :=
  k0_pay8 (View.readAt (Elt F) arg3.view (wide k j).toLoadRect X3) (View.readAt (Elt F) arg6.view (wide k j).toLoadRect X6)
    (View.readAt (Elt F) arg7.view (thin k j).toLoadRect X7)

/-- What the trip stores for column block `j`: the step, -/
def piece8 : View.Piece (Elt F) S64x8192 .f32 :=
  ⟨wide k j, k0_pay9 (k0_pay3 v0) (k0_pay4 v0) (View.readAt (Elt F) arg3.view (wide k j).toLoadRect X3)
    (View.readAt (Elt F) arg4.view (wide k j).toLoadRect X4) (View.readAt (Elt F) arg5.view (thin k j).toLoadRect X5)
    (View.readAt (Elt F) arg6.view (wide k j).toLoadRect X6) (View.readAt (Elt F) arg7.view (thin k j).toLoadRect X7)
    (View.readAt (Elt F) arg2.view (wide k j).toLoadRect X2)⟩

/-- the first moment's codes -/
def piece9 : View.Piece (Elt F) S64x8192 .i8 := ⟨wide k j, k0_pay12 (tileM arg3 arg4 arg5 X3 X4 X5 k j)⟩

/-- and scales, -/
def piece10 : View.Piece (Elt F) S64x64 .f32 := ⟨thin k j, k0_pay10 (tileM arg3 arg4 arg5 X3 X4 X5 k j)⟩

/-- the second moment's codes -/
def piece11 : View.Piece (Elt F) S64x8192 .i8 :=
  ⟨wide k j, k0_pay5 (tileR arg3 arg6 arg7 X3 X6 X7 k j) (k0_pay11 (tileR arg3 arg6 arg7 X3 X6 X7 k j))⟩

/-- and scales. -/
def piece12 : View.Piece (Elt F) S64x64 .f32 := ⟨thin k j, k0_pay11 (tileR arg3 arg6 arg7 X3 X6 X7 k j)⟩

/-- A trip's stores to the step's block are the 64 column blocks, the last one first. -/
theorem trip8 :
    (trip_k0_t1 (F := F) 𝒱 c bd i arg1 harg1 arg2 harg2 arg3 harg3 arg4 harg4 arg5 harg5 arg6 harg6 arg7 harg7 arg8 harg8
      arg9 harg9 arg10 harg10 arg11 harg11 arg12 harg12 v0 X2 X3 X4 X5 X6 X7 k).1
      = List.ofFn fun j : Fin 64 => piece8 arg2 arg3 arg4 arg5 arg6 arg7 v0 X2 X3 X4 X5 X6 X7 k j.rev := by
  sl_kernel_rfl

/-- The same for the first moment's codes, -/
theorem trip9 :
    (trip_k0_t1 (F := F) 𝒱 c bd i arg1 harg1 arg2 harg2 arg3 harg3 arg4 harg4 arg5 harg5 arg6 harg6 arg7 harg7 arg8 harg8
      arg9 harg9 arg10 harg10 arg11 harg11 arg12 harg12 v0 X2 X3 X4 X5 X6 X7 k).2.1
      = List.ofFn fun j : Fin 64 => piece9 arg3 arg4 arg5 X3 X4 X5 k j.rev := by
  sl_kernel_rfl

/-- its scales, -/
theorem trip10 :
    (trip_k0_t1 (F := F) 𝒱 c bd i arg1 harg1 arg2 harg2 arg3 harg3 arg4 harg4 arg5 harg5 arg6 harg6 arg7 harg7 arg8 harg8
      arg9 harg9 arg10 harg10 arg11 harg11 arg12 harg12 v0 X2 X3 X4 X5 X6 X7 k).2.2.1
      = List.ofFn fun j : Fin 64 => piece10 arg3 arg4 arg5 X3 X4 X5 k j.rev := by
  sl_kernel_rfl

/-- the second moment's codes -/
theorem trip11 :
    (trip_k0_t1 (F := F) 𝒱 c bd i arg1 harg1 arg2 harg2 arg3 harg3 arg4 harg4 arg5 harg5 arg6 harg6 arg7 harg7 arg8 harg8
      arg9 harg9 arg10 harg10 arg11 harg11 arg12 harg12 v0 X2 X3 X4 X5 X6 X7 k).2.2.2.1
      = List.ofFn fun j : Fin 64 => piece11 arg3 arg6 arg7 X3 X6 X7 k j.rev := by
  sl_kernel_rfl

/-- and its scales. -/
theorem trip12 :
    (trip_k0_t1 (F := F) 𝒱 c bd i arg1 harg1 arg2 harg2 arg3 harg3 arg4 harg4 arg5 harg5 arg6 harg6 arg7 harg7 arg8 harg8
      arg9 harg9 arg10 harg10 arg11 harg11 arg12 harg12 v0 X2 X3 X4 X5 X6 X7 k).2.2.2.2.1
      = List.ofFn fun j : Fin 64 => piece12 arg3 arg6 arg7 X3 X6 X7 k j.rev := by
  sl_kernel_rfl

end Cert.KernelIdeal.Hand

end
-- ==== Proof.Formulas.lean ====
/- The formulas of the two programs at extended reals, entry by entry.

   An array has `R` rows of 8192 entries, and a row has 64 blocks of 128 entries; a block has one scale. The formulas are
   stated for any number of rows `R`, so that they serve both for the whole arrays and for the kernel's blocks of 64 rows.
   The names that begin with `k` are what the kernel computes, those that begin with `r` what the reference computes. -/
module

public import Idealize.ShloMosaic.Lib.Pipeline.ValueKit
public import Idealize.ShloMosaic.PureOps.Ideal

@[expose] public section

noncomputable section

namespace Cert.Proof

open Idealize.ShloMosaic Idealize.ShloMosaic.TcCoe

/-- The shape of an array of entries with `R` rows, -/
abbrev Wide (R : Nat) : Shape := ⟨2, ![R, 8192]⟩

/-- and that of an array of scales. -/
abbrev Thin (R : Nat) : Shape := ⟨2, ![R, 64]⟩

/-- The block that column `c` lies in. -/
def blockOf (c : Fin 8192) : Fin 64 := ⟨c.val / 128, by have := c.isLt; omega⟩

/-- Column `l` of block `b`. -/
def colOf (b : Fin 64) (l : Fin 128) : Fin 8192 := ⟨b.val * 128 + l.val, by have := b.isLt; have := l.isLt; omega⟩

theorem blockOf_colOf (b : Fin 64) (l : Fin 128) : blockOf (colOf b l) = b := by
  apply Fin.ext
  show (b.val * 128 + l.val) / 128 = b.val
  have := l.isLt
  omega

/-! ### Constants -/

/-- The decay rate of the first moment, -/
abbrev beta1 : EReal := ((9 / 10 : ℝ) : EReal)
/-- one minus it, -/
abbrev beta1c : EReal := ((1 / 10 : ℝ) : EReal)
/-- the decay rate of the second moment, as the 32-bit float that both programs multiply by, -/
abbrev beta2w : EReal := Ideal.ofBits .f32 0x3F7FBE77#32
/-- one minus the exact rate, -/
abbrev beta2c : EReal := ((1 / 1000 : ℝ) : EReal)
/-- the constant that keeps the step's divisor positive, -/
abbrev eps : EReal := ((1 / 100000000 : ℝ) : EReal)
/-- the step size with its sign, as a 32-bit float, -/
abbrev negLr : EReal := Ideal.ofBits .f32 0xBA83126F#32
/-- the step size times the weight decay, -/
abbrev lrWd : EReal := ((1 / 100000 : ℝ) : EReal)
/-- the weight decay, -/
abbrev wd : EReal := ((268435456 / 26843546875 : ℝ) : EReal)
/-- the number that the kernel's reciprocal square root does not go below, -/
abbrev tiny : EReal := Ideal.ofBits .f32 0x02081CEA#32
/-- and the largest code. -/
abbrev qmax : EReal := Ideal.ofBits .f32 0x42FE0000#32

/-! ### One entry -/

/-- The new first moment, from the old one's code and scale and the gradient. -/
def newM (q : BitVec 8) (s g : EReal) : EReal := beta1 * (((q.toInt : ℝ) : EReal) * s) + beta1c * g

/-- The new second moment, from the code and scale of the old one's root and the gradient. -/
def newV (q : BitVec 8) (s g : EReal) : EReal :=
  beta2w * ((((q.toInt : ℝ) : EReal) * s) * (((q.toInt : ℝ) : EReal) * s)) + beta2c * (g * g)

/-- The square root as the kernel takes it. -/
def kRoot (v : EReal) : EReal := v * Ideal.rsqrt (max v tiny)

/-- One minus the power of the second decay rate, as the kernel takes it. -/
def kBias2 (t : BitVec 32) : EReal := 1 - Ideal.exp (((t.toInt : ℝ) : EReal) * ((Real.log (999 / 1000) : ℝ) : EReal))

/-- The same for the first decay rate. -/
def kBias1 (t : BitVec 32) : EReal := 1 - Ideal.exp (((t.toInt : ℝ) : EReal) * ((Real.log (9 / 10) : ℝ) : EReal))

/-- The kernel's factor of the step, -/
def kFactor (t : BitVec 32) : EReal := Ideal.div (negLr * Ideal.sqrt (kBias2 t)) (kBias1 t)

/-- and its constant in the divisor. -/
def kEps (t : BitVec 32) : EReal := eps * Ideal.sqrt (kBias2 t)

/-- The step as the kernel takes it, from the parameter, the first moment and the root of the second. -/
def kStep (t : BitVec 32) (p m r : EReal) : EReal := kFactor t * Ideal.div m (r + kEps t) - lrWd * p

/-- One minus the power of a decay rate, as the reference takes it. -/
def rBias (b : EReal) (t : BitVec 32) : EReal := 1 - Ideal.pow b ((t.toInt : ℝ) : EReal)

/-- The step as the reference takes it, from the parameter and the two moments. -/
def rStep (t : BitVec 32) (p m v : EReal) : EReal :=
  negLr * (Ideal.div (Ideal.div m (rBias beta1 t)) (Ideal.sqrt (Ideal.div v (rBias (1 - beta2c) t)) + eps) + wd * p)

/-- A block's largest entry. -/
def rowMax (f : Fin 128 → EReal) : EReal := (Finset.univ : Finset (Fin 128)).fold max (Ideal.ofBits .f32 0xFF800000#32) f

/-- A block's scale from its largest entry, as the kernel takes it, -/
def kScale (a : EReal) : EReal := if a = 0 then 1 else a * ((1 / 127 : ℝ) : EReal)

/-- and as the reference takes it. -/
def rScale (a : EReal) : EReal := if a = 0 then 1 else Ideal.div a qmax

/-- Rounded, clipped and made a code. -/
def clip (x : EReal) : BitVec 8 :=
  FloatOps.fptosi (F := Ideal) (φ := .f32) 8
    (min qmax (max (Ideal.ofBits .f32 0xC2FE0000#32) (Ideal.liftRound Ideal.roundHalfEven x)))

/-! ### Whole arrays -/

section
variable {R : Nat} (t : BitVec 32) (p : (Wide R).Idx → EReal) (g : (Wide R).Idx → EReal) (mq : (Wide R).Idx → BitVec 8)
  (ms : (Thin R).Idx → EReal) (vq : (Wide R).Idx → BitVec 8) (vs : (Thin R).Idx → EReal)

/-- The new first moment at row `r` and column `c`, -/
def momM (r : Fin R) (c : Fin 8192) : EReal := newM (mq (ix2 r c)) (ms (ix2 r (blockOf c))) (g (ix2 r c))

/-- and the new second moment. -/
def momV (r : Fin R) (c : Fin 8192) : EReal := newV (vq (ix2 r c)) (vs (ix2 r (blockOf c))) (g (ix2 r c))

/-- The scale of the first moment's block `b` in row `r`, given how a scale is taken. -/
def scaleM (sc : EReal → EReal) (r : Fin R) (b : Fin 64) : EReal :=
  sc (rowMax fun l => max (momM g mq ms r (colOf b l)) (-momM g mq ms r (colOf b l)))

/-- The kernel's step, -/
def kDelta (y : (Wide R).Idx) : EReal := kStep t (p y) (momM g mq ms (y 0) (y 1)) (kRoot (momV g vq vs (y 0) (y 1)))

/-- its scales of the first moment, -/
def kMScale (y : (Thin R).Idx) : EReal := scaleM g mq ms kScale (y 0) (y 1)

/-- its codes of the first moment, -/
def kMCode (y : (Wide R).Idx) : BitVec 8 :=
  clip (momM g mq ms (y 0) (y 1) * Ideal.div 1 (scaleM g mq ms kScale (y 0) (blockOf (y 1))))

/-- its scale of the root's block `b` in row `r`, -/
def kScaleV (r : Fin R) (b : Fin 64) : EReal := kScale (rowMax fun l => kRoot (momV g vq vs r (colOf b l)))

/-- the array of these, -/
def kVScale (y : (Thin R).Idx) : EReal := kScaleV g vq vs (y 0) (y 1)

/-- and its codes of the root. -/
def kVCode (y : (Wide R).Idx) : BitVec 8 :=
  clip (kRoot (momV g vq vs (y 0) (y 1)) * Ideal.div 1 (kScaleV g vq vs (y 0) (blockOf (y 1))))

/-- The reference's step, -/
def rDelta (y : (Wide R).Idx) : EReal := rStep t (p y) (momM g mq ms (y 0) (y 1)) (momV g vq vs (y 0) (y 1))

/-- its scales of the first moment, -/
def rMScale (y : (Thin R).Idx) : EReal := scaleM g mq ms rScale (y 0) (y 1)

/-- its codes of the first moment, -/
def rMCode (y : (Wide R).Idx) : BitVec 8 :=
  clip (Ideal.div (momM g mq ms (y 0) (y 1)) (scaleM g mq ms rScale (y 0) (blockOf (y 1))))

/-- its scale of the root's block `b` in row `r`, -/
def rScaleV (r : Fin R) (b : Fin 64) : EReal :=
  rScale (rowMax fun l => max (Ideal.sqrt (momV g vq vs r (colOf b l))) (-Ideal.sqrt (momV g vq vs r (colOf b l))))

/-- the array of these, -/
def rVScale (y : (Thin R).Idx) : EReal := rScaleV g vq vs (y 0) (y 1)

/-- and its codes of the root. -/
def rVCode (y : (Wide R).Idx) : BitVec 8 :=
  clip (Ideal.div (Ideal.sqrt (momV g vq vs (y 0) (y 1))) (rScaleV g vq vs (y 0) (blockOf (y 1))))

end

/-! ### A block of rows of the whole arrays

Row `r` of a block is row `ρ r` of the whole array; the formulas at the block are the formulas at those rows. -/

section
variable {R R' : Nat} (ρ : Fin R → Fin R')

/-- The block of an array of entries, -/
def rowsW {α : Type} (x : (Wide R').Idx → α) : (Wide R).Idx → α := fun y => x (ix2 (ρ (y 0)) (y 1))

/-- and that of an array of scales. -/
def rowsT {α : Type} (x : (Thin R').Idx → α) : (Thin R).Idx → α := fun y => x (ix2 (ρ (y 0)) (y 1))

variable (t : BitVec 32) (p g : (Wide R').Idx → EReal) (mq vq : (Wide R').Idx → BitVec 8) (ms vs : (Thin R').Idx → EReal)

theorem kDelta_rows (y : (Wide R).Idx) :
    kDelta t (rowsW ρ p) (rowsW ρ g) (rowsW ρ mq) (rowsT ρ ms) (rowsW ρ vq) (rowsT ρ vs) y
      = kDelta t p g mq ms vq vs (ix2 (ρ (y 0)) (y 1)) := rfl

theorem kMCode_rows (y : (Wide R).Idx) :
    kMCode (rowsW ρ g) (rowsW ρ mq) (rowsT ρ ms) y = kMCode g mq ms (ix2 (ρ (y 0)) (y 1)) := rfl

theorem kMScale_rows (y : (Thin R).Idx) :
    kMScale (rowsW ρ g) (rowsW ρ mq) (rowsT ρ ms) y = kMScale g mq ms (ix2 (ρ (y 0)) (y 1)) := rfl

theorem kVCode_rows (y : (Wide R).Idx) :
    kVCode (rowsW ρ g) (rowsW ρ vq) (rowsT ρ vs) y = kVCode g vq vs (ix2 (ρ (y 0)) (y 1)) := rfl

theorem kVScale_rows (y : (Thin R).Idx) :
    kVScale (rowsW ρ g) (rowsW ρ vq) (rowsT ρ vs) y = kVScale g vq vs (ix2 (ρ (y 0)) (y 1)) := rfl

end

end Cert.Proof

end
-- ==== Proof.KernelTile.lean ====
/- One column block of the kernel, entry by entry, at extended reals. -/
module

public import proofs.«01_k».proof.Proof.Trip
public import proofs.«01_k».proof.Proof.Formulas

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic Idealize.SL.Sem

/-! ### The named constants -/

theorem κ_log_beta1 (b : BitVec 32) : Named.named (F := Ideal) (φ := .f32) κ "log_beta1" b = ((Real.log (9 / 10) : ℝ) : EReal) :=
  IdealRules.named_const.ideal_named_scalar _ _ _ _ rfl
theorem κ_log_beta2 (b : BitVec 32) : Named.named (F := Ideal) (φ := .f32) κ "log_beta2" b = ((Real.log (999 / 1000) : ℝ) : EReal) :=
  IdealRules.named_const.ideal_named_scalar _ _ _ _ rfl
theorem κ_eps (b : BitVec 32) : Named.named (F := Ideal) (φ := .f32) κ "eps" b = eps :=
  IdealRules.named_const.ideal_named_scalar _ _ _ _ rfl
theorem κ_beta1 (b : BitVec 32) : Named.named (F := Ideal) (φ := .f32) κ "beta1" b = beta1 :=
  IdealRules.named_const.ideal_named_scalar _ _ _ _ rfl
theorem κ_beta1c (b : BitVec 32) : Named.named (F := Ideal) (φ := .f32) κ "beta1c" b = beta1c :=
  IdealRules.named_const.ideal_named_scalar _ _ _ _ rfl
theorem κ_beta2c (b : BitVec 32) : Named.named (F := Ideal) (φ := .f32) κ "beta2c" b = beta2c :=
  IdealRules.named_const.ideal_named_scalar _ _ _ _ rfl
theorem κ_lr_wd (b : BitVec 32) : Named.named (F := Ideal) (φ := .f32) κ "lr_wd" b = lrWd :=
  IdealRules.named_const.ideal_named_scalar _ _ _ _ rfl
theorem κ_inv_qmax (b : BitVec 32) : Named.named (F := Ideal) (φ := .f32) κ "inv_qmax" b = ((1 / 127 : ℝ) : EReal) :=
  IdealRules.named_const.ideal_named_scalar _ _ _ _ rfl

/-! ### The payloads at an entry -/

/-- The factor of the step is one number over the whole column block, -/
theorem factor_apply (v0 : BitVec 32) (y : S32x128.Idx) : k0_pay3 (F := Ideal) v0 y = kFactor v0 := by
  unfold k0_pay3 k0_pay2 k0_pay1
  pointwise
  simp only [κ_log_beta1, κ_log_beta2, ite_self, dite_eq_ite]
  rfl

/-- and so is the constant in the divisor. -/
theorem eps_apply (v0 : BitVec 32) (y : S32x128.Idx) : k0_pay4 (F := Ideal) v0 y = kEps v0 := by
  unfold k0_pay4 k0_pay2 k0_pay1
  pointwise
  simp only [κ_eps, κ_log_beta2, ite_self, dite_eq_ite]
  rfl

variable (g : Vec Ideal S32x128 .bf16) (q : Vec Ideal S32x128 .i8) (s : Vec Ideal S32x1 .f32)

/-- The new first moment, -/
theorem newM_apply (y : S32x128.Idx) : k0_pay7 (F := Ideal) g q s y = newM (q y) (s (ix2 (y 0) 0)) (g y) := by
  unfold k0_pay7 k0_pay6
  pointwise
  simp only [κ_beta1, κ_beta1c]
  rfl

/-- the root of the new second moment, -/
theorem root_apply (y : S32x128.Idx) : k0_pay8 (F := Ideal) g q s y = kRoot (newV (q y) (s (ix2 (y 0) 0)) (g y)) := by
  unfold k0_pay8 k0_pay6
  pointwise
  simp only [κ_beta2c]
  rfl

/-- the step, -/
theorem step_apply (v0 : BitVec 32) (vq : Vec Ideal S32x128 .i8) (vs : Vec Ideal S32x1 .f32) (p : Vec Ideal S32x128 .f32)
    (y : S32x128.Idx) :
    k0_pay9 (F := Ideal) (k0_pay3 v0) (k0_pay4 v0) g q s vq vs p y
      = kStep v0 (p y) (k0_pay7 (F := Ideal) g q s y) (k0_pay8 (F := Ideal) g vq vs y) := by
  unfold k0_pay9
  pointwise
  simp only [factor_apply, eps_apply, κ_lr_wd]
  rfl

variable (a : FVec Ideal S32x128 .f32) (b : FVec Ideal S32x1 .f32)

/-- the first moment's scale, -/
theorem scaleM_apply (y : S32x1.Idx) :
    k0_pay10 (F := Ideal) a y = kScale (rowMax fun l => max (a (ix2 (y 0) l)) (-a (ix2 (y 0) l))) := by
  unfold k0_pay10
  pointwise
  simp only [κ_inv_qmax]
  rfl

/-- the root's scale, -/
theorem scaleV_apply (y : S32x1.Idx) : k0_pay11 (F := Ideal) a y = kScale (rowMax fun l => a (ix2 (y 0) l)) := by
  unfold k0_pay11
  pointwise
  simp only [κ_inv_qmax]
  rfl

/-- the first moment's codes -/
theorem codeM_apply (y : S32x128.Idx) :
    k0_pay12 (F := Ideal) a y = clip (a y * Ideal.div 1 (k0_pay10 (F := Ideal) a (ix2 (y 0) 0))) := by
  unfold k0_pay12
  pointwise
  rfl

/-- and the root's codes. -/
theorem codeV_apply (y : S32x128.Idx) : k0_pay5 (F := Ideal) a b y = clip (a y * Ideal.div 1 (b (ix2 (y 0) 0))) := by
  unfold k0_pay5
  pointwise
  rfl

end Cert.KernelIdeal.Hand

end
-- ==== Proof.KernelBlock.lean ====
/- What the kernel leaves in its five output blocks at a grid point, in one formula per block. -/
module

public import proofs.«01_k».proof.Proof.KernelTile

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic Idealize.SL.Sem

/-- Row `r` of group `k`, as a row of the block. -/
def rowAt (k : Fin k0_t1_loop.trips) (r : Fin 32) : Fin 64 :=
  ⟨rowOff k + r.val, by have := trips_lt k; have := r.isLt; rw [rowOff_eq]; omega⟩

/-- An entry of column block `j` in the 64x8192 block, -/
theorem wide_emb (k : Fin k0_t1_loop.trips) (j : Fin 64) (x : S32x128.Idx) :
    (wide k j).emb x = ix2 (rowAt k (x 0)) (colOf j (x 1)) := by
  funext a
  apply Fin.ext
  fin_cases a
  · show rowOff k + 1 * (x 0).val = rowOff k + (x 0).val
    omega
  · show 128 * j.val + 1 * (x 1).val = j.val * 128 + (x 1).val
    omega

/-- and its scale in the 64x64 block. -/
theorem thin_emb (k : Fin k0_t1_loop.trips) (j : Fin 64) (x : S32x1.Idx) :
    (thin k j).emb x = ix2 (rowAt k (x 0)) j := by
  have h1 : (x 1).val = 0 := by have := (x 1).isLt; change (x 1).val < 1 at this; omega
  funext a
  apply Fin.ext
  fin_cases a
  · show rowOff k + 1 * (x 0).val = rowOff k + (x 0).val
    omega
  · show j.val + 1 * (x 1).val = j.val
    omega

section
variable {η : EltTy} {M : Memref sig .tc .vmem S64x8192 η} (h : M.IsWhole) (X : Vec Ideal S64x8192 η)
  {N : Memref sig .tc .vmem S64x64 η} (hN : N.IsWhole) (Y : Vec Ideal S64x64 η) (k : Fin k0_t1_loop.trips) (j : Fin 64)

/-- Reading column block `j` of a 64x8192 block, -/
theorem read_wide (x : S32x128.Idx) :
    View.readAt (Elt Ideal) M.view (wide k j).toLoadRect (h.unread X) x = X (ix2 (rowAt k (x 0)) (colOf j (x 1))) := by
  rw [View.readAt_eq_ld, h.read_unread, ← wide_emb]
  rfl

/-- and its scales in a 64x64 block. -/
theorem read_thin (x : S32x1.Idx) :
    View.readAt (Elt Ideal) N.view (thin k j).toLoadRect (hN.unread Y) x = Y (ix2 (rowAt k (x 0)) j) := by
  rw [View.readAt_eq_ld, hN.read_unread, ← thin_emb]
  rfl

end

section
variable {arg2 : Memref sig .tc .vmem S64x8192 .f32} (harg2 : arg2.IsWhole)
  {arg3 : Memref sig .tc .vmem S64x8192 .bf16} (harg3 : arg3.IsWhole)
  {arg4 : Memref sig .tc .vmem S64x8192 .i8} (harg4 : arg4.IsWhole)
  {arg5 : Memref sig .tc .vmem S64x64 .f32} (harg5 : arg5.IsWhole)
  {arg6 : Memref sig .tc .vmem S64x8192 .i8} (harg6 : arg6.IsWhole)
  {arg7 : Memref sig .tc .vmem S64x64 .f32} (harg7 : arg7.IsWhole)
  (x0 : Vec Ideal S64x8192 .f32) (x1 : Vec Ideal S64x8192 .bf16) (x2 : Vec Ideal S64x8192 .i8) (x3 : Vec Ideal S64x64 .f32)
  (x4 : Vec Ideal S64x8192 .i8) (x5 : Vec Ideal S64x64 .f32) (v0 : BitVec 32) (k : Fin k0_t1_loop.trips) (j : Fin 64)

/-- The first moment of a column block, -/
theorem tileM_apply (x : S32x128.Idx) :
    tileM (F := Ideal) arg3 arg4 arg5 (harg3.unread x1) (harg4.unread x2) (harg5.unread x3) k j x
      = momM (R := 64) x1 x2 x3 (rowAt k (x 0)) (colOf j (x 1)) := by
  obtain ⟨r, l, rfl⟩ : ∃ (r : Fin 32) (l : Fin 128), x = ix2 r l := ⟨x 0, x 1, (ix2_eta x).symm⟩
  unfold tileM
  simp only [newM_apply, read_wide, read_thin, ix2_0, ix2_1, momM, blockOf_colOf]

/-- and the root of the second. -/
theorem tileR_apply (x : S32x128.Idx) :
    tileR (F := Ideal) arg3 arg6 arg7 (harg3.unread x1) (harg6.unread x4) (harg7.unread x5) k j x
      = kRoot (momV (R := 64) x1 x4 x5 (rowAt k (x 0)) (colOf j (x 1))) := by
  obtain ⟨r, l, rfl⟩ : ∃ (r : Fin 32) (l : Fin 128), x = ix2 r l := ⟨x 0, x 1, (ix2_eta x).symm⟩
  unfold tileR
  simp only [root_apply, read_wide, read_thin, ix2_0, ix2_1, momV, blockOf_colOf]

/-- What a column block stores, entry by entry: the step, -/
theorem piece8_apply (x : S32x128.Idx) :
    (piece8 (F := Ideal) arg2 arg3 arg4 arg5 arg6 arg7 v0 (harg2.unread x0) (harg3.unread x1) (harg4.unread x2)
      (harg5.unread x3) (harg6.unread x4) (harg7.unread x5) k j).2 x
      = kDelta (R := 64) v0 x0 x1 x2 x3 x4 x5 ((wide k j).emb x) := by
  rw [wide_emb]
  unfold piece8
  dsimp only
  rw [step_apply, read_wide]
  exact congrArg₂ (kStep v0 _) (tileM_apply harg3 harg4 harg5 x1 x2 x3 k j x) (tileR_apply harg3 harg6 harg7 x1 x4 x5 k j x)

/-- the first moment's scales -/
theorem piece10_apply (x : S32x1.Idx) :
    (piece10 (F := Ideal) arg3 arg4 arg5 (harg3.unread x1) (harg4.unread x2) (harg5.unread x3) k j).2 x
      = kMScale (R := 64) x1 x2 x3 ((thin k j).emb x) := by
  rw [thin_emb]
  unfold piece10
  dsimp only
  rw [scaleM_apply]
  simp only [tileM_apply]
  rfl

/-- and codes, -/
theorem piece9_apply (x : S32x128.Idx) :
    (piece9 (F := Ideal) arg3 arg4 arg5 (harg3.unread x1) (harg4.unread x2) (harg5.unread x3) k j).2 x
      = kMCode (R := 64) x1 x2 x3 ((wide k j).emb x) := by
  obtain ⟨r, l, rfl⟩ : ∃ (r : Fin 32) (l : Fin 128), x = ix2 r l := ⟨x 0, x 1, (ix2_eta x).symm⟩
  rw [wide_emb]
  unfold piece9 kMCode scaleM
  simp only [codeM_apply, scaleM_apply, tileM_apply, ix2_0, ix2_1, blockOf_colOf]

/-- the root's scales -/
theorem piece12_apply (x : S32x1.Idx) :
    (piece12 (F := Ideal) arg3 arg6 arg7 (harg3.unread x1) (harg6.unread x4) (harg7.unread x5) k j).2 x
      = kVScale (R := 64) x1 x4 x5 ((thin k j).emb x) := by
  rw [thin_emb]
  unfold piece12
  dsimp only
  rw [scaleV_apply]
  simp only [tileR_apply]
  rfl

/-- and codes. -/
theorem piece11_apply (x : S32x128.Idx) :
    (piece11 (F := Ideal) arg3 arg6 arg7 (harg3.unread x1) (harg6.unread x4) (harg7.unread x5) k j).2 x
      = kVCode (R := 64) x1 x4 x5 ((wide k j).emb x) := by
  obtain ⟨r, l, rfl⟩ : ∃ (r : Fin 32) (l : Fin 128), x = ix2 r l := ⟨x 0, x 1, (ix2_eta x).symm⟩
  rw [wide_emb]
  unfold piece11 kVCode kScaleV
  simp only [codeV_apply, scaleV_apply, tileR_apply, ix2_0, ix2_1, blockOf_colOf]

end

end Cert.KernelIdeal.Hand

end
-- ==== Proof.KernelOut.lean ====
/- What the kernel's body leaves in its five output blocks at a grid point: the two trips of the row loop together. -/
module

public import proofs.«01_k».proof.Proof.KernelBlock
public import Idealize.ShloMosaic.Lib.Pipeline.CanonAppend

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic Idealize.SL.Sem

/-- The step number, as the kernel reads it from its table. -/
abbrev word (c : Dev nD) (xt0 : TbBuf0 (F := Ideal) c tbM0_0) : BitVec 32 := kernelRun0_A.sl.r c xt0

variable (𝒱 : Variants) (c : Dev nD) (bd : Option 𝒱.V) (i : grid0.Coords)
  (arg1 : Memref sig .tc .smem S1 .i32) (harg1 : arg1.IsWhole)
  (arg2 : Memref sig .tc .vmem S64x8192 .f32) (harg2 : arg2.IsWhole)
  (arg3 : Memref sig .tc .vmem S64x8192 .bf16) (harg3 : arg3.IsWhole)
  (arg4 : Memref sig .tc .vmem S64x8192 .i8) (harg4 : arg4.IsWhole)
  (arg5 : Memref sig .tc .vmem S64x64 .f32) (harg5 : arg5.IsWhole)
  (arg6 : Memref sig .tc .vmem S64x8192 .i8) (harg6 : arg6.IsWhole)
  (arg7 : Memref sig .tc .vmem S64x64 .f32) (harg7 : arg7.IsWhole)
  (arg8 : Memref sig .tc .vmem S64x8192 .f32) (harg8 : arg8.IsWhole)
  (arg9 : Memref sig .tc .vmem S64x8192 .i8) (harg9 : arg9.IsWhole)
  (arg10 : Memref sig .tc .vmem S64x64 .f32) (harg10 : arg10.IsWhole)
  (arg11 : Memref sig .tc .vmem S64x8192 .i8) (harg11 : arg11.IsWhole)
  (arg12 : Memref sig .tc .vmem S64x64 .f32) (harg12 : arg12.IsWhole)
  (v0 : BitVec 32)
  (x0 : Vec Ideal S64x8192 .f32) (x1 : Vec Ideal S64x8192 .bf16) (x2 : Vec Ideal S64x8192 .i8) (x3 : Vec Ideal S64x64
    .f32)
  (x4 : Vec Ideal S64x8192 .i8) (x5 : Vec Ideal S64x64 .f32) (xt0 : TbBuf0 (F := Ideal) c tbM0_0)

/-- Every store of a list writes what `G` says. -/
def Agrees {S : Shape} {η : EltTy} (G : S.Idx → Elt Ideal η) (L : List (View.Piece (Elt Ideal) S η)) : Prop :=
  ∀ p ∈ L, ∀ x : p.1.shape.Idx, p.2 x = G (p.1.emb x)

theorem agrees_nil {S : Shape} {η : EltTy} (G : S.Idx → Elt Ideal η) : Agrees G [] := fun _ hp =>
  absurd hp List.not_mem_nil

theorem agrees_append {S : Shape} {η : EltTy} {G : S.Idx → Elt Ideal η} {L L' : List (View.Piece (Elt Ideal) S η)}
    (h : Agrees G L) (h' : Agrees G L') : Agrees G (L ++ L') := fun p hp =>
  (List.mem_append.mp hp).elim (h p) (h' p)

theorem agrees_trip {S : Shape} {η : EltTy} {G : S.Idx → Elt Ideal η} {L : List (View.Piece (Elt Ideal) S η)}
    {f : Fin 64 → View.Piece (Elt Ideal) S η} (hL : L = List.ofFn fun j => f j.rev)
    (h : ∀ j x, (f j).2 x = G ((f j).1.emb x)) : Agrees G L := fun p hp => by
  rw [hL] at hp
  obtain ⟨j, rfl⟩ := List.mem_ofFn.mp hp
  exact h j.rev

/-- A block that such a list covers reads back as `G`. -/
theorem canon_of_agrees {S : Shape} {η : EltTy} {G : S.Idx → Elt Ideal η} {L : List (View.Piece (Elt Ideal) S η)}
    (h : Agrees G L) (hc : ∀ y, ∃ p ∈ L, y ∈ p.1.set) : View.canon L = G := by
  funext y
  have := View.canon_append_of_pieces G [] L h y (hc y)
  rwa [List.append_nil] at this

/-- The stores of the trips before `n` write what the formulas say. -/
theorem stores (n : ℕ) (hn : n ≤ k0_t1_loop.trips) :
    Agrees (kDelta (R := 64) v0 x0 x1 x2 x3 x4 x5) (pb_k0_t1 (F := Ideal) 𝒱 c bd i arg1 harg1 arg2 harg2 arg3 harg3 arg4
      harg4 arg5 harg5 arg6 harg6 arg7 harg7 arg8 harg8 arg9 harg9 arg10 harg10 arg11 harg11 arg12 harg12 v0
      (harg2.unread x0) (harg3.unread x1) (harg4.unread x2) (harg5.unread x3) (harg6.unread x4) (harg7.unread x5) n).1 ∧
    Agrees (kMCode (R := 64) x1 x2 x3) (pb_k0_t1 (F := Ideal) 𝒱 c bd i arg1 harg1 arg2 harg2 arg3 harg3 arg4 harg4 arg5
      harg5 arg6 harg6 arg7 harg7 arg8 harg8 arg9 harg9 arg10 harg10 arg11 harg11 arg12 harg12 v0 (harg2.unread x0)
      (harg3.unread x1) (harg4.unread x2) (harg5.unread x3) (harg6.unread x4) (harg7.unread x5) n).2.1 ∧
    Agrees (kMScale (R := 64) x1 x2 x3) (pb_k0_t1 (F := Ideal) 𝒱 c bd i arg1 harg1 arg2 harg2 arg3 harg3 arg4 harg4 arg5
      harg5 arg6 harg6 arg7 harg7 arg8 harg8 arg9 harg9 arg10 harg10 arg11 harg11 arg12 harg12 v0 (harg2.unread x0)
      (harg3.unread x1) (harg4.unread x2) (harg5.unread x3) (harg6.unread x4) (harg7.unread x5) n).2.2.1 ∧
    Agrees (kVCode (R := 64) x1 x4 x5) (pb_k0_t1 (F := Ideal) 𝒱 c bd i arg1 harg1 arg2 harg2 arg3 harg3 arg4 harg4 arg5
      harg5 arg6 harg6 arg7 harg7 arg8 harg8 arg9 harg9 arg10 harg10 arg11 harg11 arg12 harg12 v0 (harg2.unread x0)
      (harg3.unread x1) (harg4.unread x2) (harg5.unread x3) (harg6.unread x4) (harg7.unread x5) n).2.2.2.1 ∧
    Agrees (kVScale (R := 64) x1 x4 x5) (pb_k0_t1 (F := Ideal) 𝒱 c bd i arg1 harg1 arg2 harg2 arg3 harg3 arg4 harg4 arg5
      harg5 arg6 harg6 arg7 harg7 arg8 harg8 arg9 harg9 arg10 harg10 arg11 harg11 arg12 harg12 v0 (harg2.unread x0)
      (harg3.unread x1) (harg4.unread x2) (harg5.unread x3) (harg6.unread x4) (harg7.unread x5) n).2.2.2.2 := by
  induction n with
  | zero => exact ⟨agrees_nil _, agrees_nil _, agrees_nil _, agrees_nil _, agrees_nil _⟩
  | succ n ih =>
    obtain ⟨h8, h9, h10, h11, h12⟩ := ih (Nat.le_of_succ_le hn)
    rw [pb_k0_t1_succ 𝒱 c bd i arg1 harg1 arg2 harg2 arg3 harg3 arg4 harg4 arg5 harg5 arg6 harg6 arg7 harg7 arg8 harg8
      arg9 harg9 arg10 harg10 arg11 harg11 arg12 harg12 v0 (harg2.unread x0) (harg3.unread x1) (harg4.unread x2)
      (harg5.unread x3) (harg6.unread x4) (harg7.unread x5) ⟨n, hn⟩]
    exact ⟨agrees_append (agrees_trip (trip8 𝒱 c bd i arg1 harg1 arg2 harg2 arg3 harg3 arg4 harg4 arg5 harg5 arg6 harg6
      arg7 harg7 arg8 harg8 arg9 harg9 arg10 harg10 arg11 harg11 arg12 harg12 v0 (harg2.unread x0) (harg3.unread x1)
      (harg4.unread x2) (harg5.unread x3) (harg6.unread x4) (harg7.unread x5) ⟨n, hn⟩) fun j => piece8_apply harg2 harg3
      harg4 harg5 harg6 harg7 x0 x1 x2 x3 x4 x5 v0 _ j) h8,
      agrees_append (agrees_trip (trip9 𝒱 c bd i arg1 harg1 arg2 harg2 arg3 harg3 arg4 harg4 arg5 harg5 arg6 harg6 arg7
        harg7 arg8 harg8 arg9 harg9 arg10 harg10 arg11 harg11 arg12 harg12 v0 (harg2.unread x0) (harg3.unread x1)
        (harg4.unread x2) (harg5.unread x3) (harg6.unread x4) (harg7.unread x5) ⟨n, hn⟩) fun j => piece9_apply harg3
        harg4 harg5 x1 x2 x3 _ j) h9,
      agrees_append (agrees_trip (trip10 𝒱 c bd i arg1 harg1 arg2 harg2 arg3 harg3 arg4 harg4 arg5 harg5 arg6 harg6 arg7
        harg7 arg8 harg8 arg9 harg9 arg10 harg10 arg11 harg11 arg12 harg12 v0 (harg2.unread x0) (harg3.unread x1)
        (harg4.unread x2) (harg5.unread x3) (harg6.unread x4) (harg7.unread x5) ⟨n, hn⟩) fun j => piece10_apply harg3
        harg4 harg5 x1 x2 x3 _ j) h10,
      agrees_append (agrees_trip (trip11 𝒱 c bd i arg1 harg1 arg2 harg2 arg3 harg3 arg4 harg4 arg5 harg5 arg6 harg6 arg7
        harg7 arg8 harg8 arg9 harg9 arg10 harg10 arg11 harg11 arg12 harg12 v0 (harg2.unread x0) (harg3.unread x1)
        (harg4.unread x2) (harg5.unread x3) (harg6.unread x4) (harg7.unread x5) ⟨n, hn⟩) fun j => piece11_apply harg3
        harg6 harg7 x1 x4 x5 _ j) h11,
      agrees_append (agrees_trip (trip12 𝒱 c bd i arg1 harg1 arg2 harg2 arg3 harg3 arg4 harg4 arg5 harg5 arg6 harg6 arg7
        harg7 arg8 harg8 arg9 harg9 arg10 harg10 arg11 harg11 arg12 harg12 v0 (harg2.unread x0) (harg3.unread x1)
        (harg4.unread x2) (harg5.unread x3) (harg6.unread x4) (harg7.unread x5) ⟨n, hn⟩) fun j => piece12_apply harg3
        harg6 harg7 x1 x4 x5 _ j) h12⟩

/-- The body's stores are those of the row loop's trips: to the step's block, -/
theorem list8 : (kernelRun0_A (F := Ideal) c i arg2 harg2 arg3 harg3 arg4 harg4 arg5 harg5 arg6 harg6 arg7 harg7 arg8
  harg8 arg9 harg9 arg10 harg10 arg11 harg11 arg12 harg12 x0 x1 x2 x3 x4 x5 xt0).1 = (pb_k0_t1 (F := Ideal)
  Variants.none c none i tbM0_0 htbM0_0 arg2 harg2 arg3 harg3 arg4 harg4 arg5 harg5 arg6 harg6 arg7 harg7 arg8 harg8
  arg9 harg9 arg10 harg10 arg11 harg11 arg12 harg12 (word c xt0) (harg2.unread x0) (harg3.unread x1) (harg4.unread x2)
  (harg5.unread x3) (harg6.unread x4) (harg7.unread x5) k0_t1_loop.trips).1 := by
  sl_kernel_rfl

/-- to the first moment's codes -/
theorem list9 : (kernelRun0_A (F := Ideal) c i arg2 harg2 arg3 harg3 arg4 harg4 arg5 harg5 arg6 harg6 arg7 harg7 arg8
  harg8 arg9 harg9 arg10 harg10 arg11 harg11 arg12 harg12 x0 x1 x2 x3 x4 x5 xt0).2.1 = (pb_k0_t1 (F := Ideal)
  Variants.none c none i tbM0_0 htbM0_0 arg2 harg2 arg3 harg3 arg4 harg4 arg5 harg5 arg6 harg6 arg7 harg7 arg8 harg8
  arg9 harg9 arg10 harg10 arg11 harg11 arg12 harg12 (word c xt0) (harg2.unread x0) (harg3.unread x1) (harg4.unread x2)
  (harg5.unread x3) (harg6.unread x4) (harg7.unread x5) k0_t1_loop.trips).2.1 := by
  sl_kernel_rfl

/-- and scales, -/
theorem list10 : (kernelRun0_A (F := Ideal) c i arg2 harg2 arg3 harg3 arg4 harg4 arg5 harg5 arg6 harg6 arg7 harg7 arg8
  harg8 arg9 harg9 arg10 harg10 arg11 harg11 arg12 harg12 x0 x1 x2 x3 x4 x5 xt0).2.2.1 = (pb_k0_t1 (F := Ideal)
  Variants.none c none i tbM0_0 htbM0_0 arg2 harg2 arg3 harg3 arg4 harg4 arg5 harg5 arg6 harg6 arg7 harg7 arg8 harg8
  arg9 harg9 arg10 harg10 arg11 harg11 arg12 harg12 (word c xt0) (harg2.unread x0) (harg3.unread x1) (harg4.unread x2)
  (harg5.unread x3) (harg6.unread x4) (harg7.unread x5) k0_t1_loop.trips).2.2.1 := by
  sl_kernel_rfl

/-- to the root's codes -/
theorem list11 : (kernelRun0_A (F := Ideal) c i arg2 harg2 arg3 harg3 arg4 harg4 arg5 harg5 arg6 harg6 arg7 harg7 arg8
  harg8 arg9 harg9 arg10 harg10 arg11 harg11 arg12 harg12 x0 x1 x2 x3 x4 x5 xt0).2.2.2.1 = (pb_k0_t1 (F := Ideal)
  Variants.none c none i tbM0_0 htbM0_0 arg2 harg2 arg3 harg3 arg4 harg4 arg5 harg5 arg6 harg6 arg7 harg7 arg8 harg8
  arg9 harg9 arg10 harg10 arg11 harg11 arg12 harg12 (word c xt0) (harg2.unread x0) (harg3.unread x1) (harg4.unread x2)
  (harg5.unread x3) (harg6.unread x4) (harg7.unread x5) k0_t1_loop.trips).2.2.2.1 := by
  sl_kernel_rfl

/-- and scales. -/
theorem list12 : (kernelRun0_A (F := Ideal) c i arg2 harg2 arg3 harg3 arg4 harg4 arg5 harg5 arg6 harg6 arg7 harg7 arg8
  harg8 arg9 harg9 arg10 harg10 arg11 harg11 arg12 harg12 x0 x1 x2 x3 x4 x5 xt0).2.2.2.2.1 = (pb_k0_t1 (F := Ideal)
  Variants.none c none i tbM0_0 htbM0_0 arg2 harg2 arg3 harg3 arg4 harg4 arg5 harg5 arg6 harg6 arg7 harg7 arg8 harg8
  arg9 harg9 arg10 harg10 arg11 harg11 arg12 harg12 (word c xt0) (harg2.unread x0) (harg3.unread x1) (harg4.unread x2)
  (harg5.unread x3) (harg6.unread x4) (harg7.unread x5) k0_t1_loop.trips).2.2.2.2 := by
  sl_kernel_rfl

/-- What the body leaves in its output blocks: the step, -/
theorem out6_eq : out0_A_6 (F := Ideal) c i arg2 harg2 arg3 harg3 arg4 harg4 arg5 harg5 arg6 harg6 arg7 harg7 arg8 harg8
  arg9 harg9 arg10 harg10 arg11 harg11 arg12 harg12 x0 x1 x2 x3 x4 x5 xt0 = kDelta (R := 64) (word c xt0) x0 x1 x2 x3 x4
  x5 :=
  (View.read_writes_junk_eq_canon _ _).trans
    (canon_of_agrees
      ((list8 c i arg2 harg2 arg3 harg3 arg4 harg4 arg5 harg5 arg6 harg6 arg7 harg7 arg8 harg8 arg9 harg9 arg10 harg10
        arg11 harg11 arg12 harg12 x0 x1 x2 x3 x4 x5 xt0).symm ▸ (stores Variants.none c none i tbM0_0 htbM0_0 arg2 harg2
        arg3 harg3 arg4 harg4 arg5 harg5 arg6 harg6 arg7 harg7 arg8 harg8 arg9 harg9 arg10 harg10 arg11 harg11 arg12
        harg12 (word c xt0) x0 x1 x2 x3 x4 x5 k0_t1_loop.trips le_rfl).1)
      (cover0_A_6 c i arg2 harg2 arg3 harg3 arg4 harg4 arg5 harg5 arg6 harg6 arg7 harg7 arg8 harg8 arg9 harg9 arg10
        harg10 arg11 harg11 arg12 harg12 x0 x1 x2 x3 x4 x5 xt0))

/-- the first moment's codes -/
theorem out7_eq : out0_A_7 (F := Ideal) c i arg2 harg2 arg3 harg3 arg4 harg4 arg5 harg5 arg6 harg6 arg7 harg7 arg8 harg8
  arg9 harg9 arg10 harg10 arg11 harg11 arg12 harg12 x0 x1 x2 x3 x4 x5 xt0 = kMCode (R := 64) x1 x2 x3 :=
  (View.read_writes_junk_eq_canon _ _).trans
    (canon_of_agrees
      ((list9 c i arg2 harg2 arg3 harg3 arg4 harg4 arg5 harg5 arg6 harg6 arg7 harg7 arg8 harg8 arg9 harg9 arg10 harg10
        arg11 harg11 arg12 harg12 x0 x1 x2 x3 x4 x5 xt0).symm ▸ (stores Variants.none c none i tbM0_0 htbM0_0 arg2 harg2
        arg3 harg3 arg4 harg4 arg5 harg5 arg6 harg6 arg7 harg7 arg8 harg8 arg9 harg9 arg10 harg10 arg11 harg11 arg12
        harg12 (word c xt0) x0 x1 x2 x3 x4 x5 k0_t1_loop.trips le_rfl).2.1)
      (cover0_A_7 c i arg2 harg2 arg3 harg3 arg4 harg4 arg5 harg5 arg6 harg6 arg7 harg7 arg8 harg8 arg9 harg9 arg10
        harg10 arg11 harg11 arg12 harg12 x0 x1 x2 x3 x4 x5 xt0))

/-- and scales, -/
theorem out8_eq : out0_A_8 (F := Ideal) c i arg2 harg2 arg3 harg3 arg4 harg4 arg5 harg5 arg6 harg6 arg7 harg7 arg8 harg8
  arg9 harg9 arg10 harg10 arg11 harg11 arg12 harg12 x0 x1 x2 x3 x4 x5 xt0 = kMScale (R := 64) x1 x2 x3 :=
  (View.read_writes_junk_eq_canon _ _).trans
    (canon_of_agrees
      ((list10 c i arg2 harg2 arg3 harg3 arg4 harg4 arg5 harg5 arg6 harg6 arg7 harg7 arg8 harg8 arg9 harg9 arg10 harg10
        arg11 harg11 arg12 harg12 x0 x1 x2 x3 x4 x5 xt0).symm ▸ (stores Variants.none c none i tbM0_0 htbM0_0 arg2 harg2
        arg3 harg3 arg4 harg4 arg5 harg5 arg6 harg6 arg7 harg7 arg8 harg8 arg9 harg9 arg10 harg10 arg11 harg11 arg12
        harg12 (word c xt0) x0 x1 x2 x3 x4 x5 k0_t1_loop.trips le_rfl).2.2.1)
      (cover0_A_8 c i arg2 harg2 arg3 harg3 arg4 harg4 arg5 harg5 arg6 harg6 arg7 harg7 arg8 harg8 arg9 harg9 arg10
        harg10 arg11 harg11 arg12 harg12 x0 x1 x2 x3 x4 x5 xt0))

/-- the root's codes -/
theorem out9_eq : out0_A_9 (F := Ideal) c i arg2 harg2 arg3 harg3 arg4 harg4 arg5 harg5 arg6 harg6 arg7 harg7 arg8 harg8
  arg9 harg9 arg10 harg10 arg11 harg11 arg12 harg12 x0 x1 x2 x3 x4 x5 xt0 = kVCode (R := 64) x1 x4 x5 :=
  (View.read_writes_junk_eq_canon _ _).trans
    (canon_of_agrees
      ((list11 c i arg2 harg2 arg3 harg3 arg4 harg4 arg5 harg5 arg6 harg6 arg7 harg7 arg8 harg8 arg9 harg9 arg10 harg10
        arg11 harg11 arg12 harg12 x0 x1 x2 x3 x4 x5 xt0).symm ▸ (stores Variants.none c none i tbM0_0 htbM0_0 arg2 harg2
        arg3 harg3 arg4 harg4 arg5 harg5 arg6 harg6 arg7 harg7 arg8 harg8 arg9 harg9 arg10 harg10 arg11 harg11 arg12
        harg12 (word c xt0) x0 x1 x2 x3 x4 x5 k0_t1_loop.trips le_rfl).2.2.2.1)
      (cover0_A_9 c i arg2 harg2 arg3 harg3 arg4 harg4 arg5 harg5 arg6 harg6 arg7 harg7 arg8 harg8 arg9 harg9 arg10
        harg10 arg11 harg11 arg12 harg12 x0 x1 x2 x3 x4 x5 xt0))

/-- and scales. -/
theorem out10_eq : out0_A_10 (F := Ideal) c i arg2 harg2 arg3 harg3 arg4 harg4 arg5 harg5 arg6 harg6 arg7 harg7 arg8
  harg8 arg9 harg9 arg10 harg10 arg11 harg11 arg12 harg12 x0 x1 x2 x3 x4 x5 xt0 = kVScale (R := 64) x1 x4 x5 :=
  (View.read_writes_junk_eq_canon _ _).trans
    (canon_of_agrees
      ((list12 c i arg2 harg2 arg3 harg3 arg4 harg4 arg5 harg5 arg6 harg6 arg7 harg7 arg8 harg8 arg9 harg9 arg10 harg10
        arg11 harg11 arg12 harg12 x0 x1 x2 x3 x4 x5 xt0).symm ▸ (stores Variants.none c none i tbM0_0 htbM0_0 arg2 harg2
        arg3 harg3 arg4 harg4 arg5 harg5 arg6 harg6 arg7 harg7 arg8 harg8 arg9 harg9 arg10 harg10 arg11 harg11 arg12
        harg12 (word c xt0) x0 x1 x2 x3 x4 x5 k0_t1_loop.trips le_rfl).2.2.2.2)
      (cover0_A_10 c i arg2 harg2 arg3 harg3 arg4 harg4 arg5 harg5 arg6 harg6 arg7 harg7 arg8 harg8 arg9 harg9 arg10
        harg10 arg11 harg11 arg12 harg12 x0 x1 x2 x3 x4 x5 xt0))

end Cert.KernelIdeal.Hand

end
-- ==== Proof.KernelArray.lean ====
/- What the kernel's five result arrays hold after its run, as functions of the argument arrays.

   At grid point `t` every window's block is rows `64 * t` to `64 * t + 63` of its array. -/
module

public import proofs.«01_k».proof.Proof.KernelOut
public import proofs.«01_k».proof.Proof.Frames
public import Idealize.ShloMosaic.Lib.Pipeline.ValueKit
public import Idealize.ShloMosaic.Lib.Pipeline.Covers

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (hO : Ok m) (c : Dev nD)

/-- The array row of row `r` of the block at grid point `t`. -/
def rowOf (t : Fin (cfgM m hO).N) (r : Fin 64) : Fin 22528 :=
  ⟨64 * t.val + r.val, by
    have ht : t.val < 352 := t.isLt
    have := r.isLt
    omega⟩

/-- The kernel's index maps send grid point `t` to block row `t`. -/
theorem map_row : ∀ t : Fin grid0.N, cc0_transform_0 (grid0.coords t) 0 = t.val := by decide +kernel

theorem row_eq {i t r : ℕ} (e : i = t) : i * 64 + r = 64 * t + r := by subst e; omega
theorem col_eq {i n r : ℕ} (e : i = 0) : i * n + r = r := by subst e; omega

/-! ### The input blocks -/

theorem iblk0 (t : Fin (cfgM m hO).N) :
    iblk m hO c 0 t = rowsW (R := 64) (R' := 22528) (rowOf m hO t) (m ((c : Thread nD τ).loc main_arg0)) := by
  funext y
  have e0 : (pcfg0.win (adm m hO) 0).index t 0 = t.val := map_row t
  have e1 : (pcfg0.win (adm m hO) 0).index t 1 = 0 := rfl
  blk_ext [iblk, V, rowsW, rowOf]
  · exact row_eq e0
  · exact col_eq e1

theorem iblk1 (t : Fin (cfgM m hO).N) :
    iblk m hO c 1 t = rowsW (R := 64) (R' := 22528) (rowOf m hO t) (m ((c : Thread nD τ).loc main_arg1)) := by
  funext y
  have e0 : (pcfg0.win (adm m hO) 1).index t 0 = t.val := map_row t
  have e1 : (pcfg0.win (adm m hO) 1).index t 1 = 0 := rfl
  blk_ext [iblk, V, rowsW, rowOf]
  · exact row_eq e0
  · exact col_eq e1

theorem iblk2 (t : Fin (cfgM m hO).N) :
    iblk m hO c 2 t = rowsW (R := 64) (R' := 22528) (rowOf m hO t) (m ((c : Thread nD τ).loc main_arg2)) := by
  funext y
  have e0 : (pcfg0.win (adm m hO) 2).index t 0 = t.val := map_row t
  have e1 : (pcfg0.win (adm m hO) 2).index t 1 = 0 := rfl
  blk_ext [iblk, V, rowsW, rowOf]
  · exact row_eq e0
  · exact col_eq e1

theorem iblk3 (t : Fin (cfgM m hO).N) :
    iblk m hO c 3 t = rowsT (R := 64) (R' := 22528) (rowOf m hO t) (m ((c : Thread nD τ).loc main_arg3)) := by
  funext y
  have e0 : (pcfg0.win (adm m hO) 3).index t 0 = t.val := map_row t
  have e1 : (pcfg0.win (adm m hO) 3).index t 1 = 0 := rfl
  blk_ext [iblk, V, rowsT, rowOf]
  · exact row_eq e0
  · exact col_eq e1

theorem iblk4 (t : Fin (cfgM m hO).N) :
    iblk m hO c 4 t = rowsW (R := 64) (R' := 22528) (rowOf m hO t) (m ((c : Thread nD τ).loc main_arg4)) := by
  funext y
  have e0 : (pcfg0.win (adm m hO) 4).index t 0 = t.val := map_row t
  have e1 : (pcfg0.win (adm m hO) 4).index t 1 = 0 := rfl
  blk_ext [iblk, V, rowsW, rowOf]
  · exact row_eq e0
  · exact col_eq e1

theorem iblk5 (t : Fin (cfgM m hO).N) :
    iblk m hO c 5 t = rowsT (R := 64) (R' := 22528) (rowOf m hO t) (m ((c : Thread nD τ).loc main_arg5)) := by
  funext y
  have e0 : (pcfg0.win (adm m hO) 5).index t 0 = t.val := map_row t
  have e1 : (pcfg0.win (adm m hO) 5).index t 1 = 0 := rfl
  blk_ext [iblk, V, rowsT, rowOf]
  · exact row_eq e0
  · exact col_eq e1

/-! ### The result arrays -/

theorem outs6 (t : Fin (cfgM m hO).N) : (outsAt0 m hO c t).1
    = kDelta (R := 64) (word c (tbl m 0)) (rowsW (rowOf m hO t) (m ((c : Thread nD τ).loc main_arg0))) (rowsW (rowOf m hO t) (m ((c : Thread nD τ).loc main_arg1))) (rowsW (rowOf m hO t) (m ((c : Thread nD τ).loc main_arg2))) (rowsT (rowOf m hO t) (m ((c : Thread nD τ).loc main_arg3))) (rowsW (rowOf m hO t) (m ((c : Thread nD τ).loc main_arg4))) (rowsT (rowOf m hO t) (m ((c : Thread nD τ).loc main_arg5))) :=
  (out6_eq c _ _ _ _ _ _ _ _ _ _ _ _ _ _ _ _ _ _ _ _ _ _ _ _ _ _ _ _ _ _ ).trans
    (congr (congr (congr (congr (congr (congrArg (kDelta (R := 64) (word c (tbl m 0))) (iblk0 m hO c t)) (iblk1 m hO c t)) (iblk2 m hO c t)) (iblk3 m hO c t)) (iblk4 m hO c t)) (iblk5 m hO c t))

theorem arr6 : (dats m hO 0 c).arrAt 6 (cfgM m hO).N
    = kDelta (R := 22528) (word c (tbl m 0)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (Pipeline.Window.covers_of_indexMap_surj _ rfl (fun a => by change Fin 2 at a; fin_cases a <;> exact Nat.succ_pos _) ?_)
    fun t hf y => ?_
  · intro β
    have n0 : ((cfgM m hO).win 6).nblk (0 : Fin 2) = grid0.N := show (22528 + 64 - 1) / 64 = 352 by norm_num
    have n1 : ((cfgM m hO).win 6).nblk (1 : Fin 2) = 1 := show (8192 + 8192 - 1) / 8192 = 1 by norm_num
    have b0 := lt_of_lt_of_eq (β (0 : Fin 2)).isLt n0
    have b1 := lt_of_lt_of_eq (β (1 : Fin 2)).isLt n1
    refine ⟨grid0.coords ⟨(β (0 : Fin 2)).val, b0⟩, fun a => ?_⟩
    change Fin 2 at a
    fin_cases a
    · exact map_row ⟨(β (0 : Fin 2)).val, b0⟩
    · exact (Nat.lt_one_iff.mp b1).symm
  have e0 : (pcfg0.win (adm m hO) 6).index t 0 = t.val := map_row t
  have e1 : (pcfg0.win (adm m hO) 6).index t 1 = 0 := rfl
  blk_simp
  rw [after0_6]
  refine (congrFun (outs6 m hO c t) y).trans ((kDelta_rows (rowOf m hO t) _ _ _ _ _ _ _ y).trans (congrArg _ ?_))
  blk_ext [rowOf]
  · exact (row_eq e0).symm
  · exact (col_eq e1).symm

theorem outs7 (t : Fin (cfgM m hO).N) : (outsAt0 m hO c t).2.1
    = kMCode (R := 64) (rowsW (rowOf m hO t) (m ((c : Thread nD τ).loc main_arg1))) (rowsW (rowOf m hO t) (m ((c : Thread nD τ).loc main_arg2))) (rowsT (rowOf m hO t) (m ((c : Thread nD τ).loc main_arg3))) :=
  (out7_eq c _ _ _ _ _ _ _ _ _ _ _ _ _ _ _ _ _ _ _ _ _ _ _ _ _ _ _ _ _ _ ).trans
    (congr (congr (congrArg (kMCode (R := 64)) (iblk1 m hO c t)) (iblk2 m hO c t)) (iblk3 m hO c t))

theorem arr7 : (dats m hO 0 c).arrAt 7 (cfgM m hO).N
    = kMCode (R := 22528) (m ((c : Thread nD τ).loc main_arg1)) (m ((c : Thread nD τ).loc main_arg2)) (m ((c : Thread nD τ).loc main_arg3)) := by
  refine (dats m hO 0 c).arrAt_eq_of_covers 7 _ (Pipeline.Window.covers_of_indexMap_surj _ rfl (fun a => by change Fin 2 at a; fin_cases a <;> exact Nat.succ_pos _) ?_)
    fun t hf y => ?_
  · intro β
    have n0 : ((cfgM m hO).win 7).nblk (0 : Fin 2) = grid0.N := show (22528 + 64 - 1) / 64 = 352 by norm_num
    have n1 : ((cfgM m hO).win 7).nblk (1 : Fin 2) = 1 := show (8192 + 8192 - 1) / 8192 = 1 by norm_num
    have b0 := lt_of_lt_of_eq (β (0 : Fin 2)).isLt n0
    have b1 := lt_of_lt_of_eq (β (1 : Fin 2)).isLt n1
    refine ⟨grid0.coords ⟨(β (0 : Fin 2)).val, b0⟩, fun a => ?_⟩
    change Fin 2 at a
    fin_cases a
    · exact map_row ⟨(β (0 : Fin 2)).val, b0⟩
    · exact (Nat.lt_one_iff.mp b1).symm
  have e0 : (pcfg0.win (adm m hO) 7).index t 0 = t.val := map_row t
  have e1 : (pcfg0.win (adm m hO) 7).index t 1 = 0 := rfl
  blk_simp
  rw [after0_7]
  refine (congrFun (outs7 m hO c t) y).trans ((kMCode_rows (rowOf m hO t) _ _ _ y).trans (congrArg _ ?_))
  blk_ext [rowOf]
  · exact (row_eq e0).symm
  · exact (col_eq e1).symm

theorem outs8 (t : Fin (cfgM m hO).N) : (outsAt0 m hO c t).2.2.1
    = kMScale (R := 64) (rowsW (rowOf m hO t) (m ((c : Thread nD τ).loc main_arg1))) (rowsW (rowOf m hO t) (m ((c : Thread nD τ).loc main_arg2))) (rowsT (rowOf m hO t) (m ((c : Thread nD τ).loc main_arg3))) :=
  (out8_eq c _ _ _ _ _ _ _ _ _ _ _ _ _ _ _ _ _ _ _ _ _ _ _ _ _ _ _ _ _ _ ).trans
    (congr (congr (congrArg (kMScale (R := 64)) (iblk1 m hO c t)) (iblk2 m hO c t)) (iblk3 m hO c t))

theorem arr8 : (dats m hO 0 c).arrAt 8 (cfgM m hO).N
    = kMScale (R := 22528) (m ((c : Thread nD τ).loc main_arg1)) (m ((c : Thread nD τ).loc main_arg2)) (m ((c : Thread nD τ).loc main_arg3)) := by
  refine (dats m hO 0 c).arrAt_eq_of_covers 8 _ (Pipeline.Window.covers_of_indexMap_surj _ rfl (fun a => by change Fin 2 at a; fin_cases a <;> exact Nat.succ_pos _) ?_)
    fun t hf y => ?_
  · intro β
    have n0 : ((cfgM m hO).win 8).nblk (0 : Fin 2) = grid0.N := show (22528 + 64 - 1) / 64 = 352 by norm_num
    have n1 : ((cfgM m hO).win 8).nblk (1 : Fin 2) = 1 := show (64 + 64 - 1) / 64 = 1 by norm_num
    have b0 := lt_of_lt_of_eq (β (0 : Fin 2)).isLt n0
    have b1 := lt_of_lt_of_eq (β (1 : Fin 2)).isLt n1
    refine ⟨grid0.coords ⟨(β (0 : Fin 2)).val, b0⟩, fun a => ?_⟩
    change Fin 2 at a
    fin_cases a
    · exact map_row ⟨(β (0 : Fin 2)).val, b0⟩
    · exact (Nat.lt_one_iff.mp b1).symm
  have e0 : (pcfg0.win (adm m hO) 8).index t 0 = t.val := map_row t
  have e1 : (pcfg0.win (adm m hO) 8).index t 1 = 0 := rfl
  blk_simp
  rw [after0_8]
  refine (congrFun (outs8 m hO c t) y).trans ((kMScale_rows (rowOf m hO t) _ _ _ y).trans (congrArg _ ?_))
  blk_ext [rowOf]
  · exact (row_eq e0).symm
  · exact (col_eq e1).symm

theorem outs9 (t : Fin (cfgM m hO).N) : (outsAt0 m hO c t).2.2.2.1
    = kVCode (R := 64) (rowsW (rowOf m hO t) (m ((c : Thread nD τ).loc main_arg1))) (rowsW (rowOf m hO t) (m ((c : Thread nD τ).loc main_arg4))) (rowsT (rowOf m hO t) (m ((c : Thread nD τ).loc main_arg5))) :=
  (out9_eq c _ _ _ _ _ _ _ _ _ _ _ _ _ _ _ _ _ _ _ _ _ _ _ _ _ _ _ _ _ _ ).trans
    (congr (congr (congrArg (kVCode (R := 64)) (iblk1 m hO c t)) (iblk4 m hO c t)) (iblk5 m hO c t))

theorem arr9 : (dats m hO 0 c).arrAt 9 (cfgM m hO).N
    = kVCode (R := 22528) (m ((c : Thread nD τ).loc main_arg1)) (m ((c : Thread nD τ).loc main_arg4)) (m ((c : Thread nD τ).loc main_arg5)) := by
  refine (dats m hO 0 c).arrAt_eq_of_covers 9 _ (Pipeline.Window.covers_of_indexMap_surj _ rfl (fun a => by change Fin 2 at a; fin_cases a <;> exact Nat.succ_pos _) ?_)
    fun t hf y => ?_
  · intro β
    have n0 : ((cfgM m hO).win 9).nblk (0 : Fin 2) = grid0.N := show (22528 + 64 - 1) / 64 = 352 by norm_num
    have n1 : ((cfgM m hO).win 9).nblk (1 : Fin 2) = 1 := show (8192 + 8192 - 1) / 8192 = 1 by norm_num
    have b0 := lt_of_lt_of_eq (β (0 : Fin 2)).isLt n0
    have b1 := lt_of_lt_of_eq (β (1 : Fin 2)).isLt n1
    refine ⟨grid0.coords ⟨(β (0 : Fin 2)).val, b0⟩, fun a => ?_⟩
    change Fin 2 at a
    fin_cases a
    · exact map_row ⟨(β (0 : Fin 2)).val, b0⟩
    · exact (Nat.lt_one_iff.mp b1).symm
  have e0 : (pcfg0.win (adm m hO) 9).index t 0 = t.val := map_row t
  have e1 : (pcfg0.win (adm m hO) 9).index t 1 = 0 := rfl
  blk_simp
  rw [after0_9]
  refine (congrFun (outs9 m hO c t) y).trans ((kVCode_rows (rowOf m hO t) _ _ _ y).trans (congrArg _ ?_))
  blk_ext [rowOf]
  · exact (row_eq e0).symm
  · exact (col_eq e1).symm

theorem outs10 (t : Fin (cfgM m hO).N) : (outsAt0 m hO c t).2.2.2.2
    = kVScale (R := 64) (rowsW (rowOf m hO t) (m ((c : Thread nD τ).loc main_arg1))) (rowsW (rowOf m hO t) (m ((c : Thread nD τ).loc main_arg4))) (rowsT (rowOf m hO t) (m ((c : Thread nD τ).loc main_arg5))) :=
  (out10_eq c _ _ _ _ _ _ _ _ _ _ _ _ _ _ _ _ _ _ _ _ _ _ _ _ _ _ _ _ _ _ ).trans
    (congr (congr (congrArg (kVScale (R := 64)) (iblk1 m hO c t)) (iblk4 m hO c t)) (iblk5 m hO c t))

theorem arr10 : (dats m hO 0 c).arrAt 10 (cfgM m hO).N
    = kVScale (R := 22528) (m ((c : Thread nD τ).loc main_arg1)) (m ((c : Thread nD τ).loc main_arg4)) (m ((c : Thread nD τ).loc main_arg5)) := by
  refine (dats m hO 0 c).arrAt_eq_of_covers 10 _ (Pipeline.Window.covers_of_indexMap_surj _ rfl (fun a => by change Fin 2 at a; fin_cases a <;> exact Nat.succ_pos _) ?_)
    fun t hf y => ?_
  · intro β
    have n0 : ((cfgM m hO).win 10).nblk (0 : Fin 2) = grid0.N := show (22528 + 64 - 1) / 64 = 352 by norm_num
    have n1 : ((cfgM m hO).win 10).nblk (1 : Fin 2) = 1 := show (64 + 64 - 1) / 64 = 1 by norm_num
    have b0 := lt_of_lt_of_eq (β (0 : Fin 2)).isLt n0
    have b1 := lt_of_lt_of_eq (β (1 : Fin 2)).isLt n1
    refine ⟨grid0.coords ⟨(β (0 : Fin 2)).val, b0⟩, fun a => ?_⟩
    change Fin 2 at a
    fin_cases a
    · exact map_row ⟨(β (0 : Fin 2)).val, b0⟩
    · exact (Nat.lt_one_iff.mp b1).symm
  have e0 : (pcfg0.win (adm m hO) 10).index t 0 = t.val := map_row t
  have e1 : (pcfg0.win (adm m hO) 10).index t 1 = 0 := rfl
  blk_simp
  rw [after0_10]
  refine (congrFun (outs10 m hO c t) y).trans ((kVScale_rows (rowOf m hO t) _ _ _ y).trans (congrArg _ ?_))
  blk_ext [rowOf]
  · exact (row_eq e0).symm
  · exact (col_eq e1).symm

end Cert.KernelIdeal.Hand

end
-- ==== Proof.KernelWord.lean ====
/- The step number that the kernel reads from its table is the one it is given. -/
module

public import proofs.«01_k».proof.Proof.KernelArray
public import Idealize.ShloMosaic.Lib.Claim

@[expose] public section

set_option maxRecDepth 16384

noncomputable section

namespace Cert.KernelIdeal.Hand

open Cert.KernelIdeal Cert.KernelIdeal.Gen Cert.Proof
open Idealize.ShloMosaic Idealize.ShloMosaic.TcCoe Idealize.ShloMosaic.Tactic Idealize.SL.Sem

variable (m : (ℓ : Loc nD τ sig) → Buf (Elt Ideal) ℓ) (c : Dev nD)

theorem word_eq : word c (tbl m 0) = m ((c : Thread nD τ).loc main_arg6) (fun a => a.elim0) := by
  obtain rfl : c = 0 := Subsingleton.elim _ _
  have h : V m 0 main_v0 = shapeCast main_v0.ty.shape (m ((0 : Dev nD), Proc.tc.devRef main_arg6)) shapeCasts_S_S1 := by
    entry_read
    rfl
  show V m 0 main_v0 _ = _
  rw [h]
  exact congrArg (m (((0 : Dev nD) : Thread nD τ).loc main_arg6)) (funext fun a => a.elim0)

end Cert.KernelIdeal.Hand

end
-- ==== Proof.Blocks.lean ====
/- The reference's view of an array: 64 blocks of 128 entries per row, as a third axis.

   The facts are stated for any number of rows `R`. -/
module

public import proofs.«01_k».proof.Proof.Formulas
public import Idealize.ShloMosaic.Lib.Pipeline.ValueKit
public import Idealize.ShloMosaic.PureOps.Ideal.Laws
public import Idealize.ShloMosaic.Lib.Pointwise.Reshape

@[expose] public section

noncomputable section

namespace Cert.Proof

open Idealize.ShloMosaic Idealize.ShloMosaic.TcCoe

/-- The shape with the blocks as an axis of their own, -/
abbrev Cube (R : Nat) : Shape := ⟨3, ![R, 64, 128]⟩

/-- and with one entry per block. -/
abbrev Cube1 (R : Nat) : Shape := ⟨3, ![R, 64, 1]⟩

/-- The place in its block of column `c`. -/
def laneOf (c : Fin 8192) : Fin 128 := ⟨c.val % 128, Nat.mod_lt _ (by decide)⟩

theorem colOf_laneOf (c : Fin 8192) : colOf (blockOf c) (laneOf c) = c := by
  apply Fin.ext
  show c.val / 128 * 128 + c.val % 128 = c.val
  omega

section
variable {α : Type} {R : Nat}

/-- Splitting the rows into blocks, -/
theorem split_apply (x : (Wide R).Idx → α) (h : (Wide R).ShapeCasts (Cube R)) (r : Fin R) (b : Fin 64) (l : Fin 128) :
    shapeCast (Cube R) x h (ix3 r b l) = x (ix2 r (colOf b l)) := by
  refine shapeCast_apply x h _ _ ?_
  rw [rowMajor_val2 (ix2 r (colOf b l)) 8192 rfl, rowMajor_val3 (ix3 r b l) 8192 128 rfl rfl]
  show r.val * 8192 + (b.val * 128 + l.val) = r.val * 8192 + b.val * 128 + l.val
  omega

/-- and joining them again. -/
theorem join_apply (x : (Cube R).Idx → α) (h : (Cube R).ShapeCasts (Wide R)) (r : Fin R) (c : Fin 8192) :
    shapeCast (Wide R) x h (ix2 r c) = x (ix3 r (blockOf c) (laneOf c)) := by
  refine shapeCast_apply x h _ _ ?_
  rw [rowMajor_val2 (ix2 r c) 8192 rfl, rowMajor_val3 (ix3 r (blockOf c) (laneOf c)) 8192 128 rfl rfl]
  show r.val * 8192 + c.val / 128 * 128 + c.val % 128 = r.val * 8192 + c.val
  omega

/-- The scales, repeated along their blocks. -/
theorem spread_apply (x : (Thin R).Idx → α) (h : (Thin R).ShapeCasts (Cube1 R)) (h' : (Cube1 R).Broadcasts (Cube R))
    (r : Fin R) (b : Fin 64) (l : Fin 128) :
    broadcastTo (Cube R) (shapeCast (Cube1 R) x h) h' (ix3 r b l) = x (ix2 r b) := by
  have e : broadcastTo (Cube R) (shapeCast (Cube1 R) x h) h' (ix3 r b l) = shapeCast (Cube1 R) x h (ix3 r b 0) := by
    refine broadcastTo_apply _ h' _ _ fun a => ?_
    change Fin 3 at a
    fin_cases a
    · show r.val = if R = 1 then 0 else r.val
      split
      · have := r.isLt; omega
      · rfl
    · rfl
    · rfl
  rw [e]
  refine shapeCast_apply x h _ _ ?_
  rw [rowMajor_val2 (ix2 r b) 64 rfl, rowMajor_val3 (ix3 r b (0 : Fin 1)) 64 1 rfl rfl]
  show r.val * 64 + b.val = r.val * 64 + b.val * 1 + 0
  omega

/-- The largest entry of each block. -/
theorem blockMax_apply (x : FVec Ideal (Cube R) .f32) (h : (Cube R).Reduces [2] (Thin R)) (r : Fin R) (b : Fin 64) :
    multiReduction (F := Ideal) .maximumf [2] (Thin R) x 0xFF800000#32 h (.inl rfl) rfl (ix2 r b)
      = rowMax fun l => x (ix3 r b l) := by
  refine (Ideal.multiReduction_maximumf_single (a := (2 : Fin 3)) x 0xFF800000#32 h (.inl rfl) rfl (ix2 r b)).trans ?_
  unfold rowMax
  refine congrArg (Finset.fold max _ · Finset.univ) (funext fun l => congrArg x ?_)
  funext a
  change Fin 3 at a
  fin_cases a <;> rfl

end

end Cert.Proof

end
-- ==== Proof.RefTile.lean ====
/- The reference's values, entry by entry, at extended reals. -/
module

public import proofs.«01_k».proof.Proof.Gen.ReferenceIdeal.Frame
public import proofs.«01_k».proof.Proof.Blocks

@[expose] public section

set_option maxRecDepth 16384

noncomputable section

namespace Cert.ReferenceIdeal.Hand

open Cert.ReferenceIdeal Cert.ReferenceIdeal.Gen Cert.Proof
open Idealize.ShloMosaic Idealize.ShloMosaic.TcCoe Idealize.ShloMosaic.Tactic Idealize.SL.Sem

/-! ### The named constants -/

theorem κ_beta1 (b : BitVec 32) : Named.named (F := Ideal) (φ := .f32) κ "beta1" b = beta1 :=
  IdealRules.named_const.ideal_named_scalar _ _ _ _ rfl
theorem κ_beta1c (b : BitVec 32) : Named.named (F := Ideal) (φ := .f32) κ "beta1c" b = beta1c :=
  IdealRules.named_const.ideal_named_scalar _ _ _ _ rfl
theorem κ_beta2c (b : BitVec 32) : Named.named (F := Ideal) (φ := .f32) κ "beta2c" b = beta2c :=
  IdealRules.named_const.ideal_named_scalar _ _ _ _ rfl
theorem κ_eps (b : BitVec 32) : Named.named (F := Ideal) (φ := .f32) κ "eps" b = eps :=
  IdealRules.named_const.ideal_named_scalar _ _ _ _ rfl
theorem κ_wd (b : BitVec 32) : Named.named (F := Ideal) (φ := .f32) κ "wd" b = wd :=
  IdealRules.named_const.ideal_named_scalar _ _ _ _ rfl

/-! ### Two patterns, at any shape -/

section
variable {S : Shape}

/-- A scale from a largest entry, -/
theorem scale_at (M : FVec Ideal S .f32) (y : S.Idx) :
    select (cmpf .oeq M (broadcast S (Scalar.ofBits (F := Ideal) .f32 0x00000000#32)))
      (broadcast S (Scalar.ofBits (F := Ideal) .f32 0x3F800000#32))
      (divf M (broadcast S (Scalar.ofBits (F := Ideal) .f32 0x42FE0000#32))) y = rScale (M y) := by
  pointwise
  rfl

/-- and a code from an entry and its scale. -/
theorem code_at (X Y : FVec Ideal S .f32) (y : S.Idx) :
    fptosi 8 (minimumf (broadcast S (Scalar.ofBits (F := Ideal) .f32 0x42FE0000#32))
      (maximumf (broadcast S (Scalar.ofBits (F := Ideal) .f32 0xC2FE0000#32)) (roundeven (divf X Y)))) y
      = clip (Ideal.div (X y) (Y y)) := by
  pointwise
  rfl

end

/-! ### The moments and the step -/

section
variable (q : Vec Ideal S22528x8192 .i8) (s : Vec Ideal S22528x64 .f32) (g : Vec Ideal S22528x8192 .bf16)

/-- A moment's code times its scale. -/
theorem dequant_apply (r : Fin 22528) (c : Fin 8192) :
    shapeCast S22528x8192 (mulf (shapeCast S22528x64x128 (sitofp (F := Ideal) .f32 q) shapeCasts_S22528x8192_S22528x64x128)
      (broadcastTo S22528x64x128 (shapeCast S22528x64x1 s shapeCasts_S22528x64_S22528x64x1)
        broadcasts_S22528x64x1_S22528x64x128)) shapeCasts_S22528x64x128_S22528x8192 (ix2 r c)
      = ((((q (ix2 r c)).toInt : ℝ) : EReal)) * s (ix2 r (blockOf c)) := by
  refine (join_apply (R := 22528) _ _ r c).trans ?_
  refine (congrArg₂ (· * ·) (split_apply (R := 22528) _ _ r (blockOf c) (laneOf c))
    (spread_apply (R := 22528) s _ _ r (blockOf c) (laneOf c))).trans ?_
  rw [colOf_laneOf]
  rfl

/-- The new first moment, -/
theorem newM_apply (r : Fin 22528) (c : Fin 8192) :
    k0_pay4 (F := Ideal) q s g (ix2 r c) = momM (R := 22528) g q s r c := by
  have h := dequant_apply q s r c
  unfold k0_pay4 k0_pay3
  refine (congrArg₂ (fun a b => a + b) (congrArg₂ (fun a b => a * b) (κ_beta1 _) h)
    (congrArg (fun a => a * g (ix2 r c)) (κ_beta1c _)) : _)

/-- and the new second moment. -/
theorem newV_apply (r : Fin 22528) (c : Fin 8192) :
    k0_pay5 (F := Ideal) q s g (ix2 r c) = momV (R := 22528) g q s r c := by
  have h := dequant_apply q s r c
  unfold k0_pay5 k0_pay3
  refine (congrArg₂ (fun a b => a + b) (congrArg (fun a => beta2w * a) (congrArg₂ (fun a b => a * b) h h))
    (congrArg (fun a => a * (g (ix2 r c) * g (ix2 r c))) (κ_beta2c _)) : _)

end

section
variable (a : FVec Ideal S22528x8192 .f32)

/-- The scale of the first moment's block, -/
theorem scaleM_apply (r : Fin 22528) (b : Fin 64) :
    k0_pay11 (F := Ideal) a (ix2 r b)
      = rScale (rowMax fun l => max (a (ix2 r (colOf b l))) (-a (ix2 r (colOf b l)))) := by
  unfold k0_pay11 k0_pay10
  refine (scale_at _ _).trans (congrArg rScale ((blockMax_apply (R := 22528) _ _ r b).trans
    (congrArg rowMax (funext fun l => ?_))))
  exact congrArg (fun x : EReal => max x (-x)) (split_apply (R := 22528) a _ r b l)

/-- its codes, -/
theorem codeM_apply (r : Fin 22528) (c : Fin 8192) :
    k0_pay12 (F := Ideal) a (ix2 r c) = clip (Ideal.div (a (ix2 r c)) (k0_pay11 (F := Ideal) a (ix2 r (blockOf c)))) := by
  unfold k0_pay12 k0_pay10
  refine (join_apply (R := 22528) _ _ r c).trans ((code_at _ _ _).trans ?_)
  refine congrArg clip (congrArg₂ Ideal.div ?_ (spread_apply (R := 22528) _ _ _ r (blockOf c) (laneOf c)))
  refine (split_apply (R := 22528) a _ r (blockOf c) (laneOf c)).trans ?_
  rw [colOf_laneOf]

/-- the scale of the root's block, -/
theorem scaleV_apply (r : Fin 22528) (b : Fin 64) :
    k0_pay1 (F := Ideal) (k0_pay14 a) k0_pay15 (ix2 r b)
      = rScale (rowMax fun l => max (Ideal.sqrt (a (ix2 r (colOf b l)))) (-Ideal.sqrt (a (ix2 r (colOf b l))))) := by
  unfold k0_pay1 k0_pay15 k0_pay14 k0_pay13
  refine (scale_at _ _).trans (congrArg rScale ((blockMax_apply (R := 22528) _ _ r b).trans
    (congrArg rowMax (funext fun l => ?_))))
  exact congrArg (fun x : EReal => max x (-x)) (split_apply (R := 22528) (sqrt a) _ r b l)

/-- and its codes. -/
theorem codeV_apply (r : Fin 22528) (c : Fin 8192) :
    k0_pay2 (F := Ideal) (k0_pay13 a) (k0_pay14 a) k0_pay15 (ix2 r c)
      = clip (Ideal.div (Ideal.sqrt (a (ix2 r c))) (k0_pay1 (F := Ideal) (k0_pay14 a) k0_pay15 (ix2 r (blockOf c)))) := by
  unfold k0_pay2
  refine (join_apply (R := 22528) _ _ r c).trans ((code_at _ _ _).trans ?_)
  refine congrArg clip (congrArg₂ Ideal.div ?_ (spread_apply (R := 22528) _ _ _ r (blockOf c) (laneOf c)))
  unfold k0_pay13
  refine (split_apply (R := 22528) (sqrt a) _ r (blockOf c) (laneOf c)).trans ?_
  rw [colOf_laneOf]
  rfl

end

end Cert.ReferenceIdeal.Hand

end
-- ==== Proof.RefArray.lean ====
/- What the reference's five result arrays hold after its run, as functions of the argument arrays.

   The reference has one grid point, at which every window's block is its whole array. -/
module

public import proofs.«01_k».proof.Proof.RefTile
public import proofs.«01_k».proof.Proof.Gen.ReferenceIdeal.Value
public import Idealize.ShloMosaic.Lib.Pipeline.ReadBack
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen Cert.Proof
open Idealize.ShloMosaic Idealize.ShloMosaic.TcCoe Idealize.ShloMosaic.Tactic Idealize.SL.Sem
open Idealize.ShloMosaic.Pipeline (Dat)

/-- The bias that the first moment is divided by, -/
theorem bias1_apply (t : BitVec 32) :
    Scalar.subf (F := Ideal) (Scalar.ofBits .f32 0x3F800000#32) (Scalar.powf (Named.named κ "beta1" 0x3F666666#32) (k0_pay6 t))
      = rBias beta1 t := by
  rw [κ_beta1]
  unfold k0_pay6
  pointwise
  rfl

/-- and the one that the second is. -/
theorem bias2_apply (t : BitVec 32) (y : S22528x8192.Idx) : k0_pay8 (F := Ideal) t y = rBias (1 - beta2c) t := by
  unfold k0_pay8 k0_pay6
  rw [κ_beta2c]
  pointwise
  rfl

/-- The step at an entry. -/
theorem step_apply (q q' : Vec Ideal S22528x8192 .i8) (s s' : Vec Ideal S22528x64 .f32) (g : Vec Ideal S22528x8192 .bf16)
    (p : Vec Ideal S22528x8192 .f32) (t : BitVec 32) (y : S22528x8192.Idx) :
    k0_pay9 (F := Ideal) (k0_pay5 q' s' g) (k0_pay7 q s g t) (k0_pay8 t) p y = rDelta (R := 22528) t p g q s q' s' y := by
  obtain ⟨r, c, rfl⟩ : ∃ (r : Fin 22528) (c : Fin 8192), y = ix2 r c := ⟨y 0, y 1, (ix2_eta y).symm⟩
  have hm := newM_apply q s g r c
  have hv := newV_apply q' s' g r c
  have h1 := bias1_apply t
  have h2 := bias2_apply t (ix2 r c)
  have h7 : k0_pay7 (F := Ideal) q s g t (ix2 r c) = Ideal.div (momM (R := 22528) g q s r c) (rBias beta1 t) := by
    unfold k0_pay7
    exact congrArg₂ Ideal.div hm h1
  unfold k0_pay9
  exact (congrArg₂ (fun a b => Ideal.ofBits .f32 0xBA83126F#32 * (a + b))
    (congrArg₂ Ideal.div h7 (congrArg₂ (fun a b => a + b)
      (congrArg Ideal.sqrt (congrArg₂ Ideal.div hv h2)) (κ_eps _)))
    (congrArg (fun a => a * p (ix2 r c)) (κ_wd _)) : _)

section
variable (q : Vec Ideal S22528x8192 .i8) (s : Vec Ideal S22528x64 .f32) (g : Vec Ideal S22528x8192 .bf16)

/-- The first moment's scales, -/
theorem mScale_apply (y : S22528x64.Idx) : k0_pay11 (F := Ideal) (k0_pay4 q s g) y = rMScale (R := 22528) g q s y := by
  obtain ⟨r, b, rfl⟩ : ∃ (r : Fin 22528) (b : Fin 64), y = ix2 r b := ⟨y 0, y 1, (ix2_eta y).symm⟩
  refine (scaleM_apply _ r b).trans (congrArg rScale (congrArg rowMax (funext fun l => ?_)))
  exact congrArg (fun x : EReal => max x (-x)) (newM_apply q s g r (colOf b l))

/-- and its codes, -/
theorem mCode_apply (y : S22528x8192.Idx) : k0_pay12 (F := Ideal) (k0_pay4 q s g) y = rMCode (R := 22528) g q s y := by
  obtain ⟨r, c, rfl⟩ : ∃ (r : Fin 22528) (c : Fin 8192), y = ix2 r c := ⟨y 0, y 1, (ix2_eta y).symm⟩
  exact (codeM_apply _ r c).trans (congrArg clip (congrArg₂ Ideal.div (newM_apply q s g r c)
    (mScale_apply q s g (ix2 r (blockOf c)))))

/-- the root's scales, -/
theorem vScale_apply (y : S22528x64.Idx) :
    k0_pay1 (F := Ideal) (k0_pay14 (k0_pay5 q s g)) k0_pay15 y = rVScale (R := 22528) g q s y := by
  obtain ⟨r, b, rfl⟩ : ∃ (r : Fin 22528) (b : Fin 64), y = ix2 r b := ⟨y 0, y 1, (ix2_eta y).symm⟩
  refine (scaleV_apply _ r b).trans (congrArg rScale (congrArg rowMax (funext fun l => ?_)))
  exact congrArg (fun x : EReal => max (Ideal.sqrt x) (-Ideal.sqrt x)) (newV_apply q s g r (colOf b l))

/-- and its codes. -/
theorem vCode_apply (y : S22528x8192.Idx) :
    k0_pay2 (F := Ideal) (k0_pay13 (k0_pay5 q s g)) (k0_pay14 (k0_pay5 q s g)) k0_pay15 y = rVCode (R := 22528) g q s y := by
  obtain ⟨r, c, rfl⟩ : ∃ (r : Fin 22528) (c : Fin 8192), y = ix2 r c := ⟨y 0, y 1, (ix2_eta y).symm⟩
  exact (codeV_apply _ r c).trans (congrArg clip (congrArg₂ Ideal.div (congrArg Ideal.sqrt (newV_apply q s g r c))
    (vScale_apply q s g (ix2 r (blockOf c)))))

end

variable (m : (ℓ : Loc nD τ sig) → Buf (Elt Ideal) ℓ) (c : Dev nD)

/-- Every input window's block is its whole array. -/
theorem idx : ∀ t : Fin cfg0.N, win0_0.index t = ![0] ∧ win0_1.index t = ![0, 0] ∧ win0_2.index t = ![0, 0] ∧
    win0_3.index t = ![0, 0] ∧ win0_4.index t = ![0, 0] ∧ win0_5.index t = ![0, 0] ∧ win0_6.index t = ![0, 0] :=
  (by decide +kernel : ∀ t : Fin grid0.N, _)

/-! ### The input blocks -/

/-- The step number that the reference reads is the one it is given. -/
theorem iblk0 (y : S1.Idx) : iblk m c 0 t0_0 y = m ((c : Thread nD τ).loc main_arg6) (fun a => a.elim0) := by
  blk_simp [iblk]
  entry_read
  exact congrArg (m ((c : Thread nD τ).loc main_arg6)) (funext fun a => a.elim0)

theorem iblk1 : iblk m c 1 t0_0 = m ((c : Thread nD τ).loc main_arg0) := by blk_ext! [iblk, V, idx t0_0]
theorem iblk2 : iblk m c 2 t0_0 = m ((c : Thread nD τ).loc main_arg1) := by blk_ext! [iblk, V, idx t0_0]
theorem iblk3 : iblk m c 3 t0_0 = m ((c : Thread nD τ).loc main_arg2) := by blk_ext! [iblk, V, idx t0_0]
theorem iblk4 : iblk m c 4 t0_0 = m ((c : Thread nD τ).loc main_arg3) := by blk_ext! [iblk, V, idx t0_0]
theorem iblk5 : iblk m c 5 t0_0 = m ((c : Thread nD τ).loc main_arg4) := by blk_ext! [iblk, V, idx t0_0]
theorem iblk6 : iblk m c 6 t0_0 = m ((c : Thread nD τ).loc main_arg5) := by blk_ext! [iblk, V, idx t0_0]

/-! ### The result arrays -/

theorem arr7 : (dats m 0 c).arrAt 7 cfg0.N
    = rDelta (R := 22528) (m ((c : Thread nD τ).loc main_arg6) (fun a => a.elim0)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp
  rw [after0_7]
  unfold outsAt0
  frame_out
  simp only [read_unread_whole]
  rw [iblk0, iblk1, iblk2, iblk3, iblk4, iblk5, iblk6]
  exact step_apply _ _ _ _ _ _ _ j

theorem arr8 : (dats m 0 c).arrAt 8 cfg0.N
    = rMCode (R := 22528) (m ((c : Thread nD τ).loc main_arg1)) (m ((c : Thread nD τ).loc main_arg2)) (m ((c : Thread nD τ).loc main_arg3)) := by
  refine (dats m 0 c).arrAt_eq_of_after_last 8 t0_0 (by decide +kernel) _ fun j => ?_
  blk_simp
  rw [after0_8]
  unfold outsAt0
  frame_out
  simp only [read_unread_whole]
  rw [iblk2, iblk3, iblk4]
  exact mCode_apply _ _ _ j

theorem arr9 : (dats m 0 c).arrAt 9 cfg0.N
    = rMScale (R := 22528) (m ((c : Thread nD τ).loc main_arg1)) (m ((c : Thread nD τ).loc main_arg2)) (m ((c : Thread nD τ).loc main_arg3)) := by
  refine (dats m 0 c).arrAt_eq_of_after_last 9 t0_0 (by decide +kernel) _ fun j => ?_
  blk_simp
  rw [after0_9]
  unfold outsAt0
  frame_out
  simp only [read_unread_whole]
  rw [iblk2, iblk3, iblk4]
  exact mScale_apply _ _ _ j

theorem arr10 : (dats m 0 c).arrAt 10 cfg0.N
    = rVCode (R := 22528) (m ((c : Thread nD τ).loc main_arg1)) (m ((c : Thread nD τ).loc main_arg4)) (m ((c : Thread nD τ).loc main_arg5)) := by
  refine (dats m 0 c).arrAt_eq_of_after_last 10 t0_0 (by decide +kernel) _ fun j => ?_
  blk_simp
  rw [after0_10]
  unfold outsAt0
  frame_out
  simp only [read_unread_whole]
  rw [iblk2, iblk5, iblk6]
  exact vCode_apply _ _ _ j

theorem arr11 : (dats m 0 c).arrAt 11 cfg0.N
    = rVScale (R := 22528) (m ((c : Thread nD τ).loc main_arg1)) (m ((c : Thread nD τ).loc main_arg4)) (m ((c : Thread nD τ).loc main_arg5)) := by
  refine (dats m 0 c).arrAt_eq_of_after_last 11 t0_0 (by decide +kernel) _ fun j => ?_
  blk_simp
  rw [after0_11]
  unfold outsAt0
  frame_out
  simp only [read_unread_whole]
  rw [iblk2, iblk5, iblk6]
  exact vScale_apply _ _ _ j

end Cert.ReferenceIdeal.Hand

end
-- ==== Proof.Runs.lean ====
/- The runs of the two programs, with each result named by its formula. -/
module

public import proofs.«01_k».proof.Proof.KernelWord
public import proofs.«01_k».proof.Proof.RefArray

@[expose] public section

set_option maxRecDepth 16384

noncomputable section

open Idealize.ShloMosaic Idealize.ShloMosaic.TcCoe Idealize.ShloMosaic.Tactic Idealize.SL.Sem
open Cert.Proof

namespace Cert.KernelIdeal.Hand

open Cert.KernelIdeal Cert.KernelIdeal.Gen

variable (m : (ℓ : Loc nD τ sig) → Buf (Elt Ideal) ℓ) (ρ : Dev nD → PrngReg)

/-- The kernel ends with its formulas in its results and its arguments as they were. -/
theorem results : θ_run defs (onTc (τ := τ) (main (F := Ideal))) ⟨m, fun _ => 0, ρ⟩ fun r => ∀ c : Dev nD,
      r.2.mem ((c : Thread nD τ).loc main_v1_0) = kDelta (R := 22528) (m ((c : Thread nD τ).loc main_arg6) (fun a => a.elim0)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v1_1) = kMCode (R := 22528) (m ((c : Thread nD τ).loc main_arg1)) (m ((c : Thread nD τ).loc main_arg2)) (m ((c : Thread nD τ).loc main_arg3))
      ∧ r.2.mem ((c : Thread nD τ).loc main_v1_2) = kMScale (R := 22528) (m ((c : Thread nD τ).loc main_arg1)) (m ((c : Thread nD τ).loc main_arg2)) (m ((c : Thread nD τ).loc main_arg3))
      ∧ r.2.mem ((c : Thread nD τ).loc main_v1_3) = kVCode (R := 22528) (m ((c : Thread nD τ).loc main_arg1)) (m ((c : Thread nD τ).loc main_arg4)) (m ((c : Thread nD τ).loc main_arg5))
      ∧ r.2.mem ((c : Thread nD τ).loc main_v1_4) = kVScale (R := 22528) (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(((h.2 c).1 6).trans (arr6 m (kernelIdeal_ok m) c)).trans (by rw [word_eq]),
      ((h.2 c).1 7).trans (arr7 m (kernelIdeal_ok m) c), ((h.2 c).1 8).trans (arr8 m (kernelIdeal_ok m) c),
      ((h.2 c).1 9).trans (arr9 m (kernelIdeal_ok m) c), ((h.2 c).1 10).trans (arr10 m (kernelIdeal_ok m) c), h.1 c⟩)
    (θ_run_and (unchanged m ρ (kernelIdeal_ok m)) (run_main m ρ (kernelIdeal_ok m)))

end Cert.KernelIdeal.Hand

namespace Cert.ReferenceIdeal.Hand

open Cert.ReferenceIdeal Cert.ReferenceIdeal.Gen

variable (m : (ℓ : Loc nD τ sig) → Buf (Elt Ideal) ℓ) (ρ : Dev nD → PrngReg)

/-- The reference ends with its formulas in its results and its arguments as they were. -/
theorem results : θ_run defs (onTc (τ := τ) (main (F := Ideal))) ⟨m, fun _ => 0, ρ⟩ fun r => ∀ c : Dev nD,
      r.2.mem ((c : Thread nD τ).loc main_v1_0) = rDelta (R := 22528) (m ((c : Thread nD τ).loc main_arg6) (fun a => a.elim0)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v1_1) = rMCode (R := 22528) (m ((c : Thread nD τ).loc main_arg1)) (m ((c : Thread nD τ).loc main_arg2)) (m ((c : Thread nD τ).loc main_arg3))
      ∧ r.2.mem ((c : Thread nD τ).loc main_v1_2) = rMScale (R := 22528) (m ((c : Thread nD τ).loc main_arg1)) (m ((c : Thread nD τ).loc main_arg2)) (m ((c : Thread nD τ).loc main_arg3))
      ∧ r.2.mem ((c : Thread nD τ).loc main_v1_3) = rVCode (R := 22528) (m ((c : Thread nD τ).loc main_arg1)) (m ((c : Thread nD τ).loc main_arg4)) (m ((c : Thread nD τ).loc main_arg5))
      ∧ r.2.mem ((c : Thread nD τ).loc main_v1_4) = rVScale (R := 22528) (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (arr7 m c), (h c).2.1.trans (arr8 m c),
      (h c).2.2.1.trans (arr9 m c), (h c).2.2.2.1.trans (arr10 m c), (h c).2.2.2.2.1.trans (arr11 m c), (h c).2.2.2.2.2⟩)
    (Value.run_blocks m ρ)

end Cert.ReferenceIdeal.Hand

end
-- ==== Proof.Consts.lean ====
/- The 32-bit floats of the two programs that have no name, as real numbers. -/
module

public import proofs.«01_k».proof.Proof.Formulas
public import Mathlib.Tactic.NormNum

@[expose] public section

noncomputable section

namespace Cert.Proof

open Idealize.ShloMosaic

theorem beta2w_eq : beta2w = ((16760439 / 16777216 : ℝ) : EReal) := by
  simp [Ideal.ofBits, Ideal.ieee, -EReal.coe_mul]; norm_num
theorem negLr_eq : negLr = ((-(8589935 / 8589934592) : ℝ) : EReal) := by
  simp [Ideal.ofBits, Ideal.ieee, -EReal.coe_mul]; norm_num
theorem tiny_eq : tiny = ((4460149 / 44601490397061246283071436545296723011960832 : ℝ) : EReal) := by
  simp [Ideal.ofBits, Ideal.ieee, -EReal.coe_mul]; norm_num
theorem qmax_eq : qmax = ((127 : ℝ) : EReal) := by
  simp [Ideal.ofBits, Ideal.ieee, -EReal.coe_mul]; norm_num

end Cert.Proof

end
-- ==== Proof.Equal.lean ====
/- The two programs' formulas are equal, entry by entry.

   The kernel takes a square root as `v * rsqrt (max v tiny)`: that is the square root where `v` is zero or at least `tiny`.
   It takes the powers of the decay rates as exponentials, moves the bias corrections out of the step's quotient into its
   factor and its `eps`, and multiplies by reciprocals where the reference divides. -/
module

public import proofs.«01_k».proof.Proof.Consts
public import Mathlib.Analysis.SpecialFunctions.Pow.Real

@[expose] public section

noncomputable section

namespace Cert.Proof

open Idealize.ShloMosaic

/-- A second moment whose root the kernel takes exactly. -/
def Rooted (v : EReal) : Prop := v = 0 ∨ ∃ x : ℝ, v = x ∧ tiny ≤ v

/-! ### Scales and codes -/

theorem kScale_eq (a : EReal) : kScale a = rScale a := by
  unfold kScale rScale
  rw [qmax_eq, Ideal.div_coe (by norm_num : (127 : ℝ) ≠ 0)]

/-- A scale is not zero. -/
theorem rScale_ne (a : EReal) : rScale a ≠ 0 := by
  unfold rScale
  split
  · exact one_ne_zero
  · next h =>
    rw [qmax_eq, Ideal.div_coe (by norm_num : (127 : ℝ) ≠ 0)]
    intro e
    rcases mul_eq_zero.mp e with e | e
    · exact h e
    · exact absurd (EReal.coe_eq_zero.mp e) (by norm_num)

/-- Multiplying by the reciprocal of a scale is dividing by it. -/
theorem mul_recip (x : EReal) {s : EReal} (h : s ≠ 0) : x * Ideal.div 1 s = Ideal.div x s := by
  unfold Ideal.div
  rw [if_neg h, if_neg h, one_mul]

theorem mul_recip_scale (x a : EReal) : x * Ideal.div 1 (rScale a) = Ideal.div x (rScale a) := mul_recip x (rScale_ne a)

/-! ### The root -/

theorem sqrt_nonneg' {v : EReal} (h : Rooted v) : ∃ x : ℝ, 0 ≤ x ∧ v = x ∧ Ideal.sqrt v = (Real.sqrt x : ℝ) := by
  obtain rfl | ⟨x, rfl, hx⟩ := h
  · exact ⟨0, le_refl _, rfl, by
      show Ideal.sqrt ((0 : ℝ) : EReal) = _
      rw [Ideal.sqrt_coe, if_neg (lt_irrefl _)]⟩
  · rw [tiny_eq, EReal.coe_le_coe_iff] at hx
    have h0 : (0 : ℝ) ≤ x := le_trans (by norm_num) hx
    exact ⟨x, h0, rfl, by rw [Ideal.sqrt_coe, if_neg (not_lt.mpr h0)]⟩

theorem kRoot_eq {v : EReal} (h : Rooted v) : kRoot v = Ideal.sqrt v := by
  unfold kRoot
  obtain rfl | ⟨x, rfl, hx⟩ := h
  · rw [zero_mul]
    show _ = Ideal.sqrt ((0 : ℝ) : EReal)
    rw [Ideal.sqrt_coe, if_neg (lt_irrefl _), Real.sqrt_zero, EReal.coe_zero]
  · rw [max_eq_left hx]
    rw [tiny_eq, EReal.coe_le_coe_iff] at hx
    have h0 : (0 : ℝ) < x := lt_of_lt_of_le (by norm_num) hx
    rw [Ideal.rsqrt_coe, if_neg (not_lt.mpr h0.le), if_neg h0.ne', Ideal.sqrt_coe, if_neg (not_lt.mpr h0.le),
      ← EReal.coe_mul, ← div_eq_mul_inv, Real.div_sqrt]

theorem abs_root {v : EReal} (h : Rooted v) : max (Ideal.sqrt v) (-Ideal.sqrt v) = Ideal.sqrt v := by
  obtain ⟨x, _, _, e⟩ := sqrt_nonneg' h
  rw [e, ← EReal.coe_neg]
  exact max_eq_left (EReal.coe_le_coe_iff.mpr (by linarith [Real.sqrt_nonneg x]))

/-! ### The bias corrections -/

/-- One minus a power of a number between zero and one. -/
theorem bias_real {b : ℝ} (h0 : 0 < b) (h1 : b < 1) {t : BitVec 32} (ht : 1 ≤ t.toInt) :
    ∃ x : ℝ, 0 < x ∧ rBias b t = x ∧
      1 - Ideal.exp (((t.toInt : ℝ) : EReal) * ((Real.log b : ℝ) : EReal)) = x := by
  refine ⟨1 - b ^ (t.toInt : ℝ), ?_, ?_, ?_⟩
  · have : b ^ (t.toInt : ℝ) < 1 := Real.rpow_lt_one h0.le h1 (by exact_mod_cast lt_of_lt_of_le zero_lt_one ht)
    linarith
  · unfold rBias
    rw [Ideal.pow_coe_coe, EReal.coe_sub, EReal.coe_one]
    rfl
  · rw [← EReal.coe_mul, Ideal.exp_coe, EReal.coe_sub, EReal.coe_one, Real.rpow_def_of_pos h0, mul_comm]

/-! ### The step -/

/-- The step where the first moment is a real number; where it is infinite, it is the opposite infinity on both sides. -/
theorem real_step (S B p m : ℝ) (hS : 0 < S) (hB : 0 < B) (r : ℝ) (hr : 0 ≤ r) :
    -(8589935 / 8589934592) * S / B * (m * (1 / (r + 1 / 100000000 * S))) - 1 / 100000 * p
      = -(8589935 / 8589934592) * (m * (1 / B) * (1 / (r / S + 1 / 100000000)) + 268435456 / 26843546875 * p) := by
  have hD : r + 1 / 100000000 * S ≠ 0 := by positivity
  have hE : r / S + 1 / 100000000 ≠ 0 := by positivity
  have : r / S + 1 / 100000000 = (r + 1 / 100000000 * S) / S := by field_simp
  rw [this]
  field_simp
  ring

theorem step_eq {t : BitVec 32} {m v : EReal} (p : ℝ) (hv : Rooted v) (ht : 1 ≤ t.toInt) : kStep t p m (kRoot v) = rStep t p m v := by
  obtain ⟨B, hB, e1, e1'⟩ := bias_real (b := 9 / 10) (by norm_num) (by norm_num) ht
  obtain ⟨C, hC, e2, e2'⟩ := bias_real (b := 999 / 1000) (by norm_num) (by norm_num) ht
  have e2 : rBias (1 - beta2c) t = C := by
    rw [← e2]
    congr 1
    rw [← EReal.coe_one, ← EReal.coe_sub]
    norm_num
  obtain ⟨x, hx, rfl, ex⟩ := sqrt_nonneg' hv
  have hS : 0 < Real.sqrt C := Real.sqrt_pos.mpr hC
  have hr : 0 ≤ Real.sqrt x := Real.sqrt_nonneg x
  have eS : Ideal.sqrt (C : EReal) = (Real.sqrt C : ℝ) := by rw [Ideal.sqrt_coe, if_neg (not_lt.mpr hC.le)]
  have eV : Ideal.sqrt ((x : EReal) * ((1 / C : ℝ) : EReal)) = (Real.sqrt x / Real.sqrt C : ℝ) := by
    rw [← EReal.coe_mul, Ideal.sqrt_coe, if_neg (not_lt.mpr (by positivity)), mul_one_div, Real.sqrt_div hx]
  have hD : (0 : ℝ) < Real.sqrt x + 1 / 100000000 * Real.sqrt C := by positivity
  have hE : (0 : ℝ) < Real.sqrt x / Real.sqrt C + 1 / 100000000 := by positivity
  have kb1 : kBias1 t = B := e1'
  have kb2 : kBias2 t = C := e2'
  rw [kRoot_eq hv]
  unfold kStep rStep kFactor kEps
  rw [kb1, kb2, eS, ex, e1, e2, negLr_eq, ← EReal.coe_mul, Ideal.div_coe hB.ne', Ideal.div_coe hC.ne', eV,
    ← EReal.coe_mul, ← EReal.coe_mul, ← EReal.coe_mul, ← EReal.coe_mul, ← EReal.coe_add, ← EReal.coe_add,
    Ideal.div_coe hD.ne', Ideal.div_coe hB.ne', Ideal.div_coe hE.ne']
  have n1 : -(8589935 / 8589934592) * Real.sqrt C * (1 / B) < 0 := by
    have : 0 < Real.sqrt C * (1 / B) := by positivity
    linarith
  have n2 : (0 : ℝ) < 1 / (Real.sqrt x + 1 / 100000000 * Real.sqrt C) := by positivity
  have n3 : (0 : ℝ) < 1 / B := by positivity
  have n4 : (0 : ℝ) < 1 / (Real.sqrt x / Real.sqrt C + 1 / 100000000) := by positivity
  have n5 : (-(8589935 / 8589934592) : ℝ) < 0 := by norm_num
  induction m with
  | bot =>
    rw [EReal.bot_mul_coe_of_pos n2, EReal.coe_mul_bot_of_neg n1, EReal.bot_mul_coe_of_pos n3, EReal.bot_mul_coe_of_pos n4,
      EReal.bot_add, EReal.coe_mul_bot_of_neg n5, EReal.top_sub_coe]
  | top =>
    rw [EReal.top_mul_coe_of_pos n2, EReal.coe_mul_top_of_neg n1, EReal.top_mul_coe_of_pos n3, EReal.top_mul_coe_of_pos n4,
      EReal.top_add_coe, EReal.coe_mul_top_of_neg n5, EReal.bot_sub]
  | coe m =>
    rw [← EReal.coe_mul, ← EReal.coe_mul, ← EReal.coe_sub, ← EReal.coe_mul, ← EReal.coe_mul, ← EReal.coe_add,
      ← EReal.coe_mul]
    exact congrArg _ ((by ring : _ = _).trans (real_step (Real.sqrt C) B p m hS hB (Real.sqrt x) hr))

/-! ### Whole arrays -/

section
variable {R : Nat} {t : BitVec 32} {p : (Wide R).Idx → EReal} {g : (Wide R).Idx → EReal} {mq : (Wide R).Idx → BitVec 8}
  {ms : (Thin R).Idx → EReal} {vq : (Wide R).Idx → BitVec 8} {vs : (Thin R).Idx → EReal}

theorem kMScale_eq : kMScale g mq ms = rMScale g mq ms := by
  funext y
  exact kScale_eq _

theorem kMCode_eq : kMCode g mq ms = rMCode g mq ms := by
  funext y
  refine congrArg clip (Eq.trans (congrArg (fun s => momM g mq ms (y 0) (y 1) * Ideal.div 1 s) ?_) (mul_recip_scale _ _))
  exact kScale_eq _

variable (hv : ∀ r c, Rooted (momV g vq vs r c))
include hv

theorem kScaleV_eq : kScaleV g vq vs = rScaleV g vq vs := by
  funext r b
  refine (kScale_eq _).trans (congrArg rScale (congrArg rowMax (funext fun l => ?_)))
  rw [kRoot_eq (hv _ _), abs_root (hv _ _)]

theorem kVScale_eq : kVScale g vq vs = rVScale g vq vs := by
  funext y
  unfold kVScale rVScale
  rw [kScaleV_eq hv]

theorem kVCode_eq : kVCode g vq vs = rVCode g vq vs := by
  funext y
  exact congrArg clip (Eq.trans (congrArg₂ (fun x s => x * Ideal.div 1 s) (kRoot_eq (hv (y 0) (y 1)))
    (congrFun (congrFun (kScaleV_eq hv) (y 0)) (blockOf (y 1)))) (mul_recip_scale _ _))

theorem kDelta_eq (hp : ∀ y, ∃ x : ℝ, p y = x) (ht : 1 ≤ t.toInt) :
    kDelta t p g mq ms vq vs = rDelta t p g mq ms vq vs := by
  funext y
  obtain ⟨x, hx⟩ := hp y
  unfold kDelta rDelta
  rw [hx]
  exact step_eq x (hv _ _) ht

end

end Cert.Proof

end
-- ==== Proof.Range.lean ====
/- What the precondition says of the arguments: the parameters are real numbers, the kernel takes the root of every new
   second moment exactly, and the step number is at least one. -/
module

public import proofs.«01_k».proof.Defs
public import proofs.«01_k».proof.Proof.Equal
public import proofs.«01_k».proof.Proof.Blocks
public import proofs.«01_k».proof.Proof.Gen.Pre_in_range
public import Idealize.ShloMosaic.Lib.Pipeline.Value

@[expose] public section

set_option maxRecDepth 16384

noncomputable section

namespace Cert.Proof

open Idealize.ShloMosaic Idealize.ShloMosaic.TcCoe Idealize.ShloMosaic.Tactic

/-! ### One entry -/

/-- What the precondition divides the square of a gradient by, -/
abbrev thousand : EReal := Ideal.ofBits .f32 0x447A0000#32
/-- and infinity. -/
abbrev inf : EReal := Ideal.ofBits .f32 0x7F800000#32

theorem thousand_eq : thousand = ((1000 : ℝ) : EReal) := by simp [Ideal.ofBits, Ideal.ieee, -EReal.coe_mul]; norm_num
theorem zero_eq : Ideal.ofBits .f32 0x00000000#32 = 0 := by simp [Ideal.ofBits, Ideal.ieee]
theorem inf_eq : inf = ⊤ := by simp [Ideal.ofBits, Ideal.ieee]

theorem ofBool_eq_one {b : Bool} : BitVec.ofBool b = 1#1 ↔ b = true := by cases b <;> decide
theorem ofBool_or (a b : Bool) : BitVec.ofBool a ||| BitVec.ofBool b = BitVec.ofBool (a || b) := by cases a <;> cases b <;> rfl
theorem ofBool_and (a b : Bool) : BitVec.ofBool a &&& BitVec.ofBool b = BitVec.ofBool (a && b) := by cases a <;> cases b <;> rfl

/-- A number whose absolute value is below infinity is real. -/
theorem real_of_abs_lt {x : EReal} (h : Ideal.cmp .olt (max x (-x)) inf = 1#1) : ∃ r : ℝ, x = r := by
  have h : max x (-x) < inf := of_decide_eq_true (ofBool_eq_one.mp h)
  rw [inf_eq] at h
  induction x with
  | bot => simp at h
  | top => simp at h
  | coe r => exact ⟨r, rfl⟩

/-- What the precondition says of a second moment. -/
theorem rooted_of_range {v : EReal}
    (h : Ideal.cmp .oeq v (Ideal.ofBits .f32 0x00000000#32) ||| (Ideal.cmp .oge v tiny &&& Ideal.cmp .olt v inf) = 1#1) :
    Rooted v := by
  have h : v = 0 ∨ tiny ≤ v ∧ v < ⊤ := by
    unfold Ideal.cmp at h
    rw [ofBool_and, ofBool_or, ofBool_eq_one] at h
    simpa [inf_eq, zero_eq] using h
  rcases h with h | ⟨h, ht⟩
  · exact .inl h
  · induction v with
    | bot => rw [tiny_eq] at h; exact absurd h (not_le.mpr (EReal.bot_lt_coe _))
    | top => exact absurd ht (lt_irrefl _)
    | coe x => exact .inr ⟨x, rfl, h⟩

/-- The precondition's second moment is the programs'. -/
theorem moment_eq (d g : EReal) : beta2w * (d * d) + Ideal.div (g * g) thousand = beta2w * (d * d) + beta2c * (g * g) := by
  rw [thousand_eq, Ideal.div_coe (by norm_num : (1000 : ℝ) ≠ 0), mul_comm (g * g)]

/-! ### The precondition's arrays -/

/-- The scales, repeated along their blocks. -/
theorem spreadInDim_apply {α : Type} {R : Nat} (x : (Thin R).Idx → α) (h : (Thin R).BroadcastsInDim (Cube1 R) ![0, 1])
    (h' : (Cube1 R).BroadcastsInDim (Cube R) ![0, 1, 2]) (r : Fin R) (b : Fin 64) (l : Fin 128) :
    broadcastInDim (Cube R) ![0, 1, 2] h' (broadcastInDim (Cube1 R) ![0, 1] h x) (ix3 r b l) = x (ix2 r b) := by
  have e : broadcastInDim (Cube R) ![0, 1, 2] h' (broadcastInDim (Cube1 R) ![0, 1] h x) (ix3 r b l)
      = broadcastInDim (Cube1 R) ![0, 1] h x (ix3 r b 0) := by
    refine broadcastInDim_apply _ h' _ _ _ fun a => ?_
    change Fin 3 at a
    fin_cases a
    · show r.val = if R = 1 then 0 else r.val
      split
      · have := r.isLt; omega
      · rfl
    · rfl
    · rfl
  rw [e]
  refine broadcastInDim_apply _ h _ _ _ fun a => ?_
  change Fin 2 at a
  fin_cases a
  · show r.val = if R = 1 then 0 else r.val
    split
    · have := r.isLt; omega
    · rfl
  · rfl

open Cert.Pre_in_range Cert.Pre_in_range.Gen

section
variable (p : FVec Ideal S22528x8192 .f32) (g : FVec Ideal S22528x8192 .bf16) (mq : IVec S22528x8192 8)
  (ms : FVec Ideal S22528x64 .f32) (vq : IVec S22528x8192 8) (vs : FVec Ideal S22528x64 .f32) (t : IVec S_ 32)

theorem param_real (h : (fn (F := Ideal) p g mq ms vq vs t).1 = fun _ => 1#1) (y : S22528x8192.Idx) : ∃ x : ℝ, p y = x :=
  real_of_abs_lt (congrFun h y)

theorem step_pos (h : (fn (F := Ideal) p g mq ms vq vs t).2.2 = fun _ => 1#1) : 1 ≤ (t fun a => a.elim0).toInt := by
  have h := congrFun h fun a => a.elim0
  have h : BitVec.ofBool (BitVec.sle 1#32 (t fun a => a.elim0)) = 1#1 := h
  have := ofBool_eq_one.mp h
  simpa [BitVec.sle] using this

theorem moment_rooted (h : (fn (F := Ideal) p g mq ms vq vs t).2.1 = fun _ => 1#1) (r : Fin 22528) (c : Fin 8192) :
    Rooted (momV (R := 22528) g vq vs r c) := by
  have hg : shapeCast S22528x64x128 ((extf .f32 · Facts.bitsLt_bf16_f32) g) Facts.shapeCasts_S22528x8192_S22528x64x128
      (ix3 r (blockOf c) (laneOf c)) = g (ix2 r c) :=
    (split_apply (R := 22528) _ _ r _ _).trans (congrArg (fun k => g (ix2 r k)) (colOf_laneOf c))
  have hq : shapeCast S22528x64x128 (sitofp (F := Ideal) .f32 ((extsi 32 · Facts.natLt_8_32) vq))
      Facts.shapeCasts_S22528x8192_S22528x64x128 (ix3 r (blockOf c) (laneOf c)) = (((vq (ix2 r c)).toInt : ℝ) : EReal) :=
    (split_apply (R := 22528) _ _ r _ _).trans ((congrArg (fun k => (((BitVec.signExtend 32 (vq (ix2 r k))).toInt : ℝ) : EReal))
      (colOf_laneOf c)).trans (congrArg (fun n : Int => ((n : ℝ) : EReal)) (BitVec.toInt_signExtend_of_le (by decide))))
  have hs := spreadInDim_apply (R := 22528) vs Facts.bcast_S22528x64_S22528x64x1_0_1
    Facts.bcast_S22528x64x1_S22528x64x128_0_1_2 r (blockOf c) (laneOf c)
  have h := rooted_of_range (congrFun h (ix3 r (blockOf c) (laneOf c)))
  exact (congrArg Rooted ((moment_eq _ _).trans
    (congrArg₂ (fun d x : EReal => beta2w * (d * d) + beta2c * (x * x)) (congrArg₂ (· * ·) hq hs) hg))).mp h

end

end Cert.Proof

end
-- ==== Proof.Algebraic.lean ====
/- The kernel and the reference end with equal results, from arguments that are equal and that the precondition admits. -/
module

public import proofs.«01_k».proof.Defs
public import proofs.«01_k».proof.Proof.Runs
public import proofs.«01_k».proof.Proof.Range

@[expose] public section

set_option maxRecDepth 16384

namespace Cert.Proof

open Idealize.ShloMosaic Idealize.ShloMosaic.TcCoe Idealize.SL.Sem

/-- Each result of the reference is the kernel's. -/
theorem algebraic : Cert.algebraic_KernelIdeal_ReferenceIdeal_pre_in_range := by
  intro m ρ m' ρ' hpre hargs
  refine ⟨_, _, _, _, _, Cert.KernelIdeal.Hand.results m ρ,
    (θ_run _ _ _).mono (fun r h c => ?_) (Cert.ReferenceIdeal.Hand.results m' ρ')⟩
  obtain ⟨h0, h1, h2, h3, h4, ha⟩ := h c
  obtain ⟨a0, a1, a2, a3, a4, a5, a6⟩ := hargs c
  obtain ⟨hp, hv, ht⟩ := hpre c
  have hv := moment_rooted _ _ _ _ _ _ _ hv
  refine ⟨h0.trans ?_, h1.trans ?_, h2.trans ?_, h3.trans ?_, h4.trans ?_, ha⟩
  · rw [a0, a1, a2, a3, a4, a5, a6]
    exact (kDelta_eq hv (param_real _ _ _ _ _ _ _ hp) (step_pos _ _ _ _ _ _ _ ht)).symm
  · rw [a1, a2, a3]
    exact kMCode_eq.symm
  · rw [a1, a2, a3]
    exact kMScale_eq.symm
  · rw [a1, a4, a5]
    exact (kVCode_eq hv).symm
  · rw [a1, a4, a5]
    exact (kVScale_eq hv).symm

end Cert.Proof

end
-- ==== Proof.lean ====
/- The certificate's proof: the claims of Defs.lean, assembled from the modules under Proof/. -/
module

public import proofs.«01_k».proof.Defs
public import proofs.«01_k».proof.Proof.Frames
public import proofs.«01_k».proof.Proof.Algebraic

@[expose] public section

namespace Cert.Proof

theorem claim : Cert.Claim :=
  ⟨Cert.Kernel.Gen.facts, Cert.KernelIdeal.Gen.facts, Cert.ReferenceIdeal.Gen.facts, Cert.Pre_in_range.Gen.facts,
    frame_kernel, frame_kernelIdeal, frame_kernelIdeal_pre, frame_reference, frame_reference_pre, preserves, algebraic⟩

end Cert.Proof
